-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S16384x128 : Shape := ⟨2, ![16384, 128]⟩
abbrev S1000x128 : Shape := ⟨2, ![1000, 128]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S128x1000 : Shape := ⟨2, ![128, 1000]⟩

class Facts : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S1000x128_S1000_d1 : S1000x128.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x128_S128x1000_1_0 : S1000x128.Transposes [1, 0] S128x1000
  bcast_S_S16384x1000 : S_.BroadcastsInDim S16384x1000 (![] : Fin 0 → Fin S16384x1000.rank)
  bcast_S_S16384x128 : S_.BroadcastsInDim S16384x128 (![] : Fin 0 → Fin S16384x128.rank)
  bcast_S_S1000x128 : S_.BroadcastsInDim S1000x128 (![] : Fin 0 → Fin S1000x128.rank)
  dot_S16384x128_S128x1000_S16384x1000_1_0_0_1_n_n_wf : DotDims.WF S16384x128 S128x1000 S16384x1000 [1] [0] [0] [1] [] []

variable [Facts]

def dot_S16384x128_S128x1000_S16384x1000_1_0_0_1_n_n : DotDims S16384x128 S128x1000 S16384x1000 where
  lhsContracting := [1]
  rhsContracting := [0]
  lhsNonContracting := [0]
  rhsNonContracting := [1]
  lhsBatch := []
  rhsBatch := []
  wf := dot_S16384x128_S128x1000_S16384x1000_1_0_0_1_n_n_wf
def fn_part1 {F : FTy → Type} [FloatOps F] (main_v13 : FVec F S16384x1000 .f32) (main_v16 : IVec S16384x128 1) (main_v17 : FVec F S1000x128 .f32) (main_v18 : FVec F S1000x128 .f32) : IVec S16384x128 1 × IVec S1000x128 1 × IVec S16384x1000 1 :=
  let main_v19 : IVec S1000x128 1 := cmpf .olt main_v17 main_v18
  let main_cst_4 : FVec F S_ .f32 := constant S_ .f32 0x00800000#32
  let main_v20 : FVec F S16384x1000 .f32 := broadcastInDim S16384x1000 ![] bcast_S_S16384x1000 main_cst_4
  let main_v21 : IVec S16384x1000 1 := cmpf .oge main_v13 main_v20
  (main_v16, main_v19, main_v21)

def fn {F : FTy → Type} [FloatOps F] (main_arg0 : FVec F S16384x128 .f32) (main_arg1 : FVec F S1000x128 .f32) : IVec S16384x128 1 × IVec S1000x128 1 × IVec S16384x1000 1 :=
  let main_v0 : FVec F S16384x128 .f32 := mulf main_arg0 main_arg0
  let main_cst : FVec F S_ .f32 := constant S_ .f32 0x00000000#32
  let main_v1 : FVec F S16384 .f32 := (fun x v => Host.reduceAdd x v reducesTo_S16384x128_S16384_d1 h_S_) main_v0 main_cst
  let main_v2 : FVec F S16384x1 .f32 := broadcastInDim S16384x1 ![0] bcast_S16384_S16384x1_0 main_v1
  let main_v3 : FVec F S1000x128 .f32 := mulf main_arg1 main_arg1
  let main_cst_0 : FVec F S_ .f32 := constant S_ .f32 0x00000000#32
  let main_v4 : FVec F S1000 .f32 := (fun x v => Host.reduceAdd x v reducesTo_S1000x128_S1000_d1 h_S_) main_v3 main_cst_0
  let main_v5 : FVec F S1x1000 .f32 := broadcastInDim S1x1000 ![1] bcast_S1000_S1x1000_1 main_v4
  let main_v6 : FVec F S16384x1000 .f32 := broadcastInDim S16384x1000 ![0, 1] bcast_S16384x1_S16384x1000_0_1 main_v2
  let main_v7 : FVec F S16384x1000 .f32 := broadcastInDim S16384x1000 ![0, 1] bcast_S1x1000_S16384x1000_0_1 main_v5
  let main_v8 : FVec F S16384x1000 .f32 := addf main_v6 main_v7
  let main_v9 : FVec F S128x1000 .f32 := (transpose S128x1000 [1, 0] · transposes_S1000x128_S128x1000_1_0) main_arg1
  let main_v10 : FVec F S16384x1000 .f32 := (fun l r => Host.dotGeneral dot_S16384x128_S128x1000_S16384x1000_1_0_0_1_n_n none l r) main_arg0 main_v9
  let main_cst_1 : FVec F S_ .f32 := constant S_ .f32 0x40000000#32
  let main_v11 : FVec F S16384x1000 .f32 := broadcastInDim S16384x1000 ![] bcast_S_S16384x1000 main_cst_1
  let main_v12 : FVec F S16384x1000 .f32 := mulf main_v11 main_v10
  let main_v13 : FVec F S16384x1000 .f32 := subf main_v8 main_v12
  let main_v14 : FVec F S16384x128 .f32 := Host.absf main_arg0
  let main_cst_2 : FVec F S_ .f32 := constant S_ .f32 0x7F800000#32
  let main_v15 : FVec F S16384x128 .f32 := broadcastInDim S16384x128 ![] bcast_S_S16384x128 main_cst_2
  let main_v16 : IVec S16384x128 1 := cmpf .olt main_v14 main_v15
  let main_v17 : FVec F S1000x128 .f32 := Host.absf main_arg1
  let main_cst_3 : FVec F S_ .f32 := constant S_ .f32 0x7F800000#32
  let main_v18 : FVec F S1000x128 .f32 := broadcastInDim S1000x128 ![] bcast_S_S1000x128 main_cst_3
  fn_part1 (F := F) main_v13 main_v16 main_v17 main_v18
-- ==== Kernel.lean ====
abbrev S16384x128 : Shape := ⟨2, ![16384, 128]⟩
abbrev S1000x128 : Shape := ⟨2, ![1000, 128]⟩
abbrev S1000x16384 : Shape := ⟨2, ![1000, 16384]⟩
abbrev S8x1x2048 : Shape := ⟨3, ![8, 1, 2048]⟩
abbrev S16384x1000 : Shape := ⟨2, ![16384, 1000]⟩
abbrev S16384 : Shape := ⟨1, ![16384]⟩
abbrev S2048x128 : Shape := ⟨2, ![2048, 128]⟩
abbrev S1000x2048 : Shape := ⟨2, ![1000, 2048]⟩
abbrev S1x1x2048 : Shape := ⟨3, ![1, 1, 2048]⟩
abbrev S1000x1 : Shape := ⟨2, ![1000, 1]⟩
abbrev S1000 : Shape := ⟨1, ![1000]⟩
abbrev S128x2048 : Shape := ⟨2, ![128, 2048]⟩
abbrev S2048 : Shape := ⟨1, ![2048]⟩
abbrev S1x2048 : Shape := ⟨2, ![1, 2048]⟩
abbrev S8x2048 : Shape := ⟨2, ![8, 2048]⟩

abbrev nBuf : Space → Nat
  | .hbm => 8
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S1000x128, .f32⟩
  | .hbm, ⟨2, _⟩ => ⟨S1000x16384, .f32⟩
  | .hbm, ⟨3, _⟩ => ⟨S8x1x2048, .i32⟩
  | .hbm, ⟨4, _⟩ => ⟨S8x1x2048, .f32⟩
  | .hbm, ⟨5, _⟩ => ⟨S16384x1000, .f32⟩
  | .hbm, ⟨6, _⟩ => ⟨S16384, .i32⟩
  | .hbm, ⟨7, _⟩ => ⟨S16384, .f32⟩
  | .local _ .vmem, ⟨0, _⟩ => ⟨S2048x128, .f32⟩
  | .local _ .vmem, ⟨1, _⟩ => ⟨S2048x128, .f32⟩
  | .local _ .vmem, ⟨2, _⟩ => ⟨S1000x128, .f32⟩
  | .local _ .vmem, ⟨3, _⟩ => ⟨S1000x2048, .f32⟩
  | .local _ .vmem, ⟨4, _⟩ => ⟨S1000x2048, .f32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .f32⟩
  | .local _ .vmem, ⟨8, _⟩ => ⟨S1x1x2048, .f32⟩
  | .local _ .vmem, ⟨9, _⟩ => ⟨S1000x128, .f32⟩
  | .local _ .vmem, ⟨10, _⟩ => ⟨S1000x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x128 : Shape := ⟨2, ![16384, 128]⟩
abbrev S1000x128 : Shape := ⟨2, ![1000, 128]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S128x1000 : Shape := ⟨2, ![128, 1000]⟩
abbrev S16384x1000 : Shape := ⟨2, ![16384, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1000x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x128, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S128x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S16384x1000, .i32⟩
  | .hbm, ⟨24, _⟩ => ⟨S_, .f32⟩
  | .hbm, ⟨25, _⟩ => ⟨S_, .i32⟩
  | .hbm, ⟨26, _⟩ => ⟨S16384, .f32⟩
  | .hbm, ⟨27, _⟩ => ⟨S16384, .i32⟩
  | .hbm, ⟨28, _⟩ => ⟨S16384x1, .i32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S_, .i32⟩
  | .hbm, ⟨33, _⟩ => ⟨S16384x1, .i32⟩
  | .hbm, ⟨34, _⟩ => ⟨S16384x1, .i32⟩
  | .hbm, ⟨35, _⟩ => ⟨S16384x1, .i32⟩
  | .hbm, ⟨36, _⟩ => ⟨S16384x1x1, .i32⟩
  | .hbm, ⟨37, _⟩ => ⟨S1, .i32⟩
  | .hbm, ⟨38, _⟩ => ⟨S_, .i32⟩
  | .hbm, ⟨39, _⟩ => ⟨S16384x1x1, .i32⟩
  | .hbm, ⟨40, _⟩ => ⟨S16384x1x1, .i1⟩
  | .hbm, ⟨41, _⟩ => ⟨S1x1x1, .i32⟩
  | .hbm, ⟨42, _⟩ => ⟨S16384x1x1, .i32⟩
  | .hbm, ⟨43, _⟩ => ⟨S16384x1x1, .i1⟩
  | .hbm, ⟨44, _⟩ => ⟨S16384x1x1, .i1⟩
  | .hbm, ⟨45, _⟩ => ⟨S_, .i1⟩
  | .hbm, ⟨46, _⟩ => ⟨S16384x1, .i1⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384, .i32⟩
  | .hbm, ⟨53, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== Proof.RefRun.lean ====
/-
  The run of the REFERENCE program (../ReferenceIdeal.lean): @main is a straight line of array operations, two of its
  stretches printed as module-local functions, so every buffer ends at the operations' results folded over the launch
  contents. The three results are named here as functions of the two arguments: `dist`, `assign` and `inertia`.
-/
module

public import proofs.«01_k».proof.Defs
public import proofs.«01_k».proof.Proof.Gen.ReferenceIdeal
public import Idealize.ShloMosaic.Lib.StableHlo.Run
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The three results as functions of the arguments -/

/-- The squared distances the reference expands: `|x|² + |c|² − 2 x·c`, at every (point, centroid). -/
def sqDist (x : FVec F S16384x128 .f32) (y : FVec F S1000x128 .f32) : FVec F S16384x1000 .f32 :=
  subf
    (addf
      (broadcastInDim S16384x1000 ![0, 1] bcast_S16384x1_S16384x1000_0_1
        (broadcastInDim S16384x1 ![0] bcast_S16384_S16384x1_0
          (Host.reduceAdd (mulf x x) (constant S_ .f32 0x00000000#32) reducesTo_S16384x128_S16384_d1 h_S_)))
      (broadcastInDim S16384x1000 ![0, 1] bcast_S1x1000_S16384x1000_0_1
        (broadcastInDim S1x1000 ![1] bcast_S1000_S1x1000_1
          (Host.reduceAdd (mulf y y) (constant S_ .f32 0x00000000#32) reducesTo_S1000x128_S1000_d1 h_S_))))
    (mulf (broadcastInDim S16384x1000 ![] bcast_S_S16384x1000 (constant S_ .f32 0x40000000#32))
      (Host.dotGeneral dot_S16384x128_S128x1000_S16384x1000_1_0_0_1_n_n none x
        (transpose S128x1000 [1, 0] y transposes_S1000x128_S128x1000_1_0)))

/-- The distances: the square root of the squared distances cut off below at zero. -/
def dist (x : FVec F S16384x128 .f32) (y : FVec F S1000x128 .f32) : FVec F S16384x1000 .f32 :=
  Host.sqrt (maximumf (sqDist x y) (broadcastInDim S16384x1000 ![] bcast_S_S16384x1000 (constant S_ .f32 0x00000000#32)))

/-- The second part of what a search ends at, for every row. -/
def indices (a : S16384.Idx → F .f32 × BitVec 32) : IVec S16384 32 := fun j => (a j).2

theorem indices_of (a : S16384.Idx → F .f32 × BitVec 32) (j : S16384.Idx) (p : F .f32 × BitVec 32) (h : a j = p) :
    indices a j = p.2 := by rw [indices, h]

/-- The index of the least entry of each row. -/
def assign (d : FVec F S16384x1000 .f32) : IVec S16384 32 :=
  indices (Host.argReduce reducer_argmin_f32_i32 d (iotaInDim S16384x1000 32 1) (constant S_ .f32 0x7F800000#32)
    (constantI S_ 32 0#32) reducesTo_S16384x1000_S16384_d1 h_S_)

/-- The indices as one column. -/
def column (a : IVec S16384 32) : IVec S16384x1 32 := broadcastInDim S16384x1 ![0] bcast_S16384_S16384x1_0 a

/-- A negative index counts from the end of its row. -/
def wrapped (a : IVec S16384x1 32) : IVec S16384x1x1 32 :=
  shapeCast S16384x1x1
    (select (cmpi .slt a (broadcastInDim S16384x1 ![] bcast_S_S16384x1 (constantI S_ 32 0#32)))
      (addi a (broadcastInDim S16384x1 ![] bcast_S_S16384x1 (constantI S_ 32 1000#32))) a)
    shapeCasts_S16384x1_S16384x1x1

/-- Whether each index lies in its row. -/
def inRow (a : IVec S16384x1x1 32) : IVec S16384x1 1 :=
  Host.reduce IntOp.andi
    (andi (cmpi .sge a (broadcastInDim S16384x1x1 ![] bcast_S_S16384x1x1 (constantI S_ 32 0#32)))
      (cmpi .sle a (broadcastInDim S16384x1x1 ![0, 1, 2] bcast_S1x1x1_S16384x1x1_0_1_2
        (broadcastInDim S1x1x1 ![2] bcast_S1_S1x1x1_2 (constantI S1 32 999#32)))))
    (constantI S_ 1 1#1) reducesTo_S16384x1x1_S16384x1_d2 h_S_

/-- The entry of each row its index names, a not-a-number where the index is outside the row. -/
def taken (d : FVec F S16384x1000 .f32) (a : IVec S16384x1x1 32) : FVec F S16384x1 .f32 :=
  select (inRow a)
    (Host.gather gather_S16384x1000_S16384x1x1_S16384x1_n_1_0_0_1_2_11 d a)
    (broadcastInDim S16384x1 ![] bcast_S_S16384x1 (constant S_ .f32 0x7FC00000#32))

/-- The square of the distance taken. -/
def inertia (d : FVec F S16384x1000 .f32) (a : IVec S16384x1x1 32) : FVec F S16384 .f32 :=
  shapeCast S16384 (mulf (taken d a) (taken d a)) shapeCasts_S16384x1_S16384

/-! ## The operations -/

/-- The operations up to the distances. -/
abbrev opsDist : List (HloOp τ sig (Elt F)) :=
  [ binary main_arg0 main_arg0 main_v0 mulf,
    nullary main_cst (constant S_ .f32 0x00000000#32),
    binary main_v0 main_cst main_v1 (fun x v => Host.reduceAdd x v reducesTo_S16384x128_S16384_d1 h_S_),
    unary main_v1 main_v2 (broadcastInDim S16384x1 ![0] bcast_S16384_S16384x1_0),
    binary main_arg1 main_arg1 main_v3 mulf,
    nullary main_cst_0 (constant S_ .f32 0x00000000#32),
    binary main_v3 main_cst_0 main_v4 (fun x v => Host.reduceAdd x v reducesTo_S1000x128_S1000_d1 h_S_),
    unary main_v4 main_v5 (broadcastInDim S1x1000 ![1] bcast_S1000_S1x1000_1),
    unary main_arg1 main_v6 (transpose S128x1000 [1, 0] · transposes_S1000x128_S128x1000_1_0),
    binary main_arg0 main_v6 main_v7 (fun l r => Host.dotGeneral dot_S16384x128_S128x1000_S16384x1000_1_0_0_1_n_n none l r),
    unary main_v2 main_v8 (broadcastInDim S16384x1000 ![0, 1] bcast_S16384x1_S16384x1000_0_1),
    unary main_v5 main_v9 (broadcastInDim S16384x1000 ![0, 1] bcast_S1x1000_S16384x1000_0_1),
    binary main_v8 main_v9 main_v10 addf,
    nullary main_cst_1 (constant S_ .f32 0x40000000#32),
    unary main_cst_1 main_v11 (broadcastInDim S16384x1000 ![] bcast_S_S16384x1000),
    binary main_v11 main_v7 main_v12 mulf,
    binary main_v10 main_v12 main_v13 subf,
    nullary main_cst_2 (constant S_ .f32 0x00000000#32),
    unary main_cst_2 main_v14 (broadcastInDim S16384x1000 ![] bcast_S_S16384x1000),
    binary main_v13 main_v14 main_v15 maximumf,
    unary main_v15 main_v16 Host.sqrt ]

/-- The operations from the distances to the column of least indices. -/
abbrev opsArg : List (HloOp τ sig (Elt F)) :=
  [ TRef.nullary main_call0.v0 (iotaInDim S16384x1000 32 1),
    TRef.nullary main_call0.cst (constant S_ .f32 0x7F800000#32),
    TRef.nullary main_call0.c (constantI S_ 32 0#32),
    TRef.quaternary (.of main_v16) main_call0.v0 main_call0.cst main_call0.c main_call0.v1_0 (fun x y u v j => (Host.argReduce reducer_argmin_f32_i32 x y u v reducesTo_S16384x1000_S16384_d1 h_S_ j).1),
    TRef.quaternary (.of main_v16) main_call0.v0 main_call0.cst main_call0.c main_call0.v1_1 (fun x y u v j => (Host.argReduce reducer_argmin_f32_i32 x y u v reducesTo_S16384x1000_S16384_d1 h_S_ j).2),
    unary main_v17 main_v18 (broadcastInDim S16384x1 ![0] bcast_S16384_S16384x1_0) ]

/-- The operations that count negative indices from the end of their rows. -/
abbrev opsWrap : List (HloOp τ sig (Elt F)) :=
  [ TRef.nullary main_call1.c (constantI S_ 32 0#32),
    TRef.unary main_call1.c main_call1.v0 (broadcastInDim S16384x1 ![] bcast_S_S16384x1),
    TRef.binary (.of main_v18) main_call1.v0 main_call1.v1 (cmpi .slt),
    TRef.nullary main_call1.c_0 (constantI S_ 32 1000#32),
    TRef.unary main_call1.c_0 main_call1.v2 (broadcastInDim S16384x1 ![] bcast_S_S16384x1),
    TRef.binary (.of main_v18) main_call1.v2 main_call1.v3 addi,
    TRef.ternary main_call1.v1 main_call1.v3 (.of main_v18) main_call1.v4 select,
    TRef.reshape main_call1.v4 main_call1.v5 rfl shapeCasts_S16384x1_S16384x1x1 ]

/-- The operations that read each row at its index and square what they read. -/
abbrev opsTake : List (HloOp τ sig (Elt F)) :=
  [ TRef.nullary main_call1.c_1 (constantI S1 32 999#32),
    TRef.nullary main_call1.c_2 (constantI S_ 32 0#32),
    TRef.unary main_call1.c_2 main_call1.v6 (broadcastInDim S16384x1x1 ![] bcast_S_S16384x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x1x1 ![0, 1, 2] bcast_S1x1x1_S16384x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1x1_S16384x1_d2 h_S_),
    TRef.binary (.of main_v16) main_call1.v5 main_call1.v13 (fun x i => Host.gather gather_S16384x1000_S16384x1x1_S16384x1_n_1_0_0_1_2_11 x i),
    TRef.nullary main_call1.cst (constant S_ .f32 0x7FC00000#32),
    TRef.unary main_call1.cst main_call1.v14 (broadcastInDim S16384x1 ![] bcast_S_S16384x1),
    TRef.ternary main_call1.v12 main_call1.v13 main_call1.v14 main_call1.v15 select,
    binary main_v19 main_v19 main_v20 mulf,
    StableHlo.reshape main_v18 main_v21 rfl shapeCasts_S16384x1_S16384,
    StableHlo.reshape main_v20 main_v22 rfl shapeCasts_S16384x1_S16384 ]

/-- @main's operations, in order. -/
abbrev ops : List (HloOp τ sig (Elt F)) := opsDist ++ (opsArg ++ (opsWrap ++ opsTake))

/-- @main is that straight line. -/
theorem main_eq (c : Dev nD) : main (F := F) c = seq ops := by
  unfold main fn_argmin.body fn_take_along_axis.body
  rfl

/-- What the line leaves in the buffer of distances. -/
theorem dist_eq (V : Valuation τ sig (Elt F)) :
    after ops V (main_v16 : DevRef τ sig) = dist (V (main_arg0 : DevRef τ sig)) (V (main_arg1 : DevRef τ sig)) := by
  after_reads_simp
  rfl

/-- What the line leaves in the buffer of indices. -/
theorem assign_eq (V : Valuation τ sig (Elt F)) :
    after ops V (main_v21 : DevRef τ sig)
      = shapeCast S16384 (column (assign (dist (V (main_arg0 : DevRef τ sig)) (V (main_arg1 : DevRef τ sig)))))
          shapeCasts_S16384x1_S16384 := by
  after_reads_simp
  rfl

/-- What the last stretch leaves in the buffer of squared least distances, over any contents before it. -/
theorem inertia_eq_take (V : Valuation τ sig (Elt F)) :
    after opsTake V (main_v22 : DevRef τ sig)
      = inertia (V (main_v16 : DevRef τ sig)) (V (main_call1_v5 : DevRef τ sig)) := by
  after_reads_simp
  simp -implicitDefEqProofs only [TRef.toBuf, TRef.ofBuf, cast_eq]
  rfl

/-- What the stretches before it leave in the buffer of distances, -/
theorem dist_eq_head (V : Valuation τ sig (Elt F)) :
    after opsWrap (after opsArg (after opsDist V)) (main_v16 : DevRef τ sig)
      = dist (V (main_arg0 : DevRef τ sig)) (V (main_arg1 : DevRef τ sig)) := by
  after_reads_simp
  rfl

/-- and in the buffer of indices counted from the start of their rows. -/
theorem wrapped_eq_head (V : Valuation τ sig (Elt F)) :
    after opsWrap (after opsArg (after opsDist V)) (main_call1_v5 : DevRef τ sig)
      = wrapped (column (assign (dist (V (main_arg0 : DevRef τ sig)) (V (main_arg1 : DevRef τ sig))))) := by
  after_reads_simp
  simp -implicitDefEqProofs only [TRef.toBuf, TRef.ofBuf, cast_eq]
  rfl

/-- What the line leaves in the buffer of squared least distances. -/
theorem inertia_eq (V : Valuation τ sig (Elt F)) :
    after ops V (main_v22 : DevRef τ sig)
      = inertia (dist (V (main_arg0 : DevRef τ sig)) (V (main_arg1 : DevRef τ sig)))
          (wrapped (column (assign (dist (V (main_arg0 : DevRef τ sig)) (V (main_arg1 : DevRef τ sig)))))) := by
  rw [← wrapped_eq_head V, ← dist_eq_head V, ← inertia_eq_take]
  rfl

/-- No operation writes the first argument's buffer. -/
theorem arg0_eq (V : Valuation τ sig (Elt F)) :
    after ops V (main_arg0 : DevRef τ sig) = V (main_arg0 : DevRef τ sig) := by
  after_reads_simp

/-- No operation writes the second argument's buffer. -/
theorem arg1_eq (V : Valuation τ sig (Elt F)) :
    after ops V (main_arg1 : DevRef τ sig) = V (main_arg1 : DevRef τ sig) := by
  after_reads_simp

/-- Nothing is scoped on this signature: no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, opsDist, opsArg, opsWrap, opsTake, List.cons_append, List.nil_append, List.Forall, nullary_bufs_sub,
    unary_bufs_sub, binary_bufs_sub, ternary_bufs_sub, quaternary_bufs_sub, reshape_bufs_sub, and_self]

/-- Every weakly fair execution of @main terminates, the three result buffers hold the named functions of the launched
    arguments and the arguments are unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v16)
            = dist (m ((c.tc : Thread nD τ).loc main_arg0)) (m ((c.tc : Thread nD τ).loc main_arg1))
        ∧ r.2.mem ((c.tc : Thread nD τ).loc main_v21)
            = shapeCast S16384 (column (assign (dist (m ((c.tc : Thread nD τ).loc main_arg0)) (m ((c.tc : Thread nD τ).loc main_arg1)))))
                shapeCasts_S16384x1_S16384
        ∧ r.2.mem ((c.tc : Thread nD τ).loc main_v22)
            = inertia (dist (m ((c.tc : Thread nD τ).loc main_arg0)) (m ((c.tc : Thread nD τ).loc main_arg1)))
                (wrapped (column (assign (dist (m ((c.tc : Thread nD τ).loc main_arg0)) (m ((c.tc : Thread nD τ).loc main_arg1))))))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v16).trans (dist_eq _), (h c main_v21).trans (assign_eq _),
      (h c main_v22).trans (inertia_eq _), (h c main_arg0).trans (arg0_eq _), (h c main_arg1).trans (arg1_eq _)⟩)
    (run_seq scopedRefs_eq scopedSems_eq defs main (fun _ => ops) main_eq (fun _ => ops_sub) m ρ)

end Cert.Proof.Ref

end
-- ==== Proof.Blocks.lean ====
/-
  What one grid point leaves in each block and in the two scratch arrays, in both cases of the kernel's conditional: the
  block of distances is one expression in the point's tile and the scratch, and the running minimum over its 125 groups
  of eight rows is the recursion `best`, with the group it was last improved in (`arg`).
-/
module

public import proofs.«01_k».proof.Proof.Gen.KernelIdeal.Frame
public import Idealize.ShloMosaic.Lib.Pipeline.Value

@[expose] public section

set_option maxRecDepth 16384

noncomputable section

namespace Cert.Proof.Blocks

open Cert.KernelIdeal Cert.KernelIdeal.Gen
open Idealize.ShloMosaic Idealize.ShloMosaic.TcCoe Idealize.SL.Sem

variable {F : FTy → Type} [FloatOps F]

/-! ## The running minimum -/

/-- Eight consecutive rows from row `8 n` lie in the block when `n` is below 125. -/
theorem slices_rows (n : ℕ) (h : n < 125) : Shape.Slices S1000x2048 ![8 * n, 0] S8x2048 := by
  refine ⟨rfl, fun a => ?_⟩
  match a with
  | ⟨0, _⟩ => show 8 * n + 8 ≤ 1000; omega
  | ⟨1, _⟩ => show 0 + 2048 ≤ 2048; omega

/-- Rows `8 n` to `8 n + 7` of a block. -/
def rows (v : FVec F S1000x2048 .f32) (n : ℕ) (h : n < 125) : FVec F S8x2048 .f32 :=
  extractStridedSlice S8x2048 ![8 * n, 0] v (slices_rows n h)

/-- The f32 pattern of the natural number `n`. -/
def word (n : ℕ) : BitVec 32 :=
  if n = 0 then 0#32 else BitVec.ofNat 32 ((127 + Nat.log2 n) * 2 ^ 23 + (n - 2 ^ Nat.log2 n) * 2 ^ (23 - Nat.log2 n))

/-- The least entry so far at each place, after groups `0` to `n`. -/
def best (v : FVec F S1000x2048 .f32) : (n : ℕ) → n < 125 → FVec F S8x2048 .f32
  | 0, h => rows v 0 h
  | n + 1, h =>
    select (cmpf .olt (rows v (n + 1) h) (best v n (Nat.lt_of_succ_lt h))) (rows v (n + 1) h) (best v n (Nat.lt_of_succ_lt h))

/-- Whether group `n + 1` improves on the groups before it. -/
def less (v : FVec F S1000x2048 .f32) (n : ℕ) (h : n + 1 < 125) : IVec S8x2048 1 :=
  cmpf .olt (rows v (n + 1) h) (best v n (Nat.lt_of_succ_lt h))

/-- The group the least entry was found in, after groups `0` to `n`. -/
def arg (v : FVec F S1000x2048 .f32) : (n : ℕ) → n < 125 → FVec F S8x2048 .f32
  | 0, _ => broadcast S8x2048 (Scalar.ofBits .f32 (word 0))
  | n + 1, h => select (less v n h) (broadcast S8x2048 (Scalar.ofBits .f32 (word (n + 1)))) (arg v n (Nat.lt_of_succ_lt h))

theorem best_zero (v : FVec F S1000x2048 .f32) (h : 0 < 125) : best v 0 h = rows v 0 h := rfl

theorem best_succ (v : FVec F S1000x2048 .f32) (n : ℕ) (h : n + 1 < 125) :
    best v (n + 1) h = select (less v n h) (rows v (n + 1) h) (best v n (Nat.lt_of_succ_lt h)) := rfl

theorem less_eq (v : FVec F S1000x2048 .f32) (n : ℕ) (h : n + 1 < 125) :
    less v n h = cmpf .olt (rows v (n + 1) h) (best v n (Nat.lt_of_succ_lt h)) := rfl

theorem arg_zero (v : FVec F S1000x2048 .f32) (h : 0 < 125) :
    arg v 0 h = broadcast S8x2048 (Scalar.ofBits .f32 (word 0)) := rfl

theorem arg_succ (v : FVec F S1000x2048 .f32) (n : ℕ) (h : n + 1 < 125) :
    arg v (n + 1) h = select (less v n h) (broadcast S8x2048 (Scalar.ofBits .f32 (word (n + 1)))) (arg v n (Nat.lt_of_succ_lt h)) :=
  rfl

/-- The block of assignments the kernel stores for a block of distances. -/
def assignOf (v : FVec F S1000x2048 .f32) : IVec S1x1x2048 32 :=
  k0_pay2 (arg v 123 (by decide)) (less v 123 (by decide)) (best v 124 (by decide))

/-- The block of inertias the kernel stores for a block of distances. -/
def inertiaOf (v : FVec F S1000x2048 .f32) : FVec F S1x1x2048 .f32 := k0_pay3 (best v 124 (by decide))

/-- The candidates the kernel takes the least of, at the groups `g` and the entries `b`: where the least entry is found,
    eight times the group plus the place; elsewhere the number of rows. -/
def candidates (g b : FVec F S8x2048 .f32) : FVec F S8x2048 .f32 :=
  select (cmpf .oeq b (broadcastTo S8x2048 (k0_pay1 b) broadcasts_S1x2048_S8x2048))
    (addf (mulf g (broadcast S8x2048 (Scalar.ofBits .f32 0x41000000#32)))
      (sitofp .f32 (iota .tc S8x2048 32 [0] iota_S8x2048_d0_w32)))
    (broadcast S8x2048 (Scalar.ofBits .f32 0x447A0000#32))

/-- The assignments are the least candidates, converted to integers. -/
theorem assignOf_eq (v : FVec F S1000x2048 .f32) :
    assignOf v = shapeCast S1x1x2048
      (fptosi 32 (multiReduction .minimumf [0] S2048 (candidates (arg v 124 (by decide)) (best v 124 (by decide))) 0x7F800000#32
        reduces_S8x2048_S2048 (.inl rfl) rfl)) shapeCasts_S2048_S1x1x2048 := rfl

/-- The inertias are the squares of the least entries. -/
theorem inertiaOf_eq (v : FVec F S1000x2048 .f32) :
    inertiaOf v = shapeCast S1x1x2048 (mulf (k0_pay1 (best v 124 (by decide))) (k0_pay1 (best v 124 (by decide))))
      shapeCasts_S1x2048_S1x1x2048 := rfl

/-! ## What a point leaves -/

theorem zero2 : (![0, 0] : Fin 2 → ℕ) = fun _ => 0 := funext fun a => by fin_cases a <;> rfl
theorem zero3 : (![0, 0, 0] : Fin 3 → ℕ) = fun _ => 0 := funext fun a => by fin_cases a <;> rfl

variable (c : Dev nD) (i : grid0.Coords) (a1 : Memref sig .tc .vmem S2048x128 .f32) (h1 : a1.IsWhole)
  (a2 : Memref sig .tc .vmem S1000x128 .f32) (h2 : a2.IsWhole) (a3 : Memref sig .tc .vmem S1000x2048 .f32) (h3 : a3.IsWhole)
  (a4 : Memref sig .tc .vmem S1x1x2048 .i32) (h4 : a4.IsWhole) (a5 : Memref sig .tc .vmem S1x1x2048 .f32) (h5 : a5.IsWhole)
  (a6 : Memref sig .tc .vmem S1000x128 .f32) (h6 : a6.IsWhole) (a7 : Memref sig .tc .vmem S1000x1 .f32) (h7 : a7.IsWhole)
  (x0 : Vec F S2048x128 .f32) (x1 : Vec F S1000x128 .f32)

/-- At the first point the distances are computed from the scratch just stored. -/
theorem dist_A : kernelRun0_A.sl.r c a1 h1 a2 h2 a6 a7 x0 x1 = k0_pay6 x0 (k0_pay4 x1) (k0_pay5 x1) := by
  unfold kernelRun0_A.sl.r kernelRun0_A.sl.v5 kernelRun0_A.sl.v10 kernelRun0_A.sl.HS0_1 kernelRun0_A.sl.HS1_1
  rw [View.readAt_eq_ld, View.readAt_eq_ld, h1.read_unread, h2.read_unread]
  exact congr (congrArg₂ k0_pay6 (View.ld_unit_zero zero2 _ _)
      ((View.readCov_unit_zero _ zero2 _ _).trans (congrArg k0_pay4 (View.ld_unit_zero zero2 _ _))))
    ((View.readCov_unit_zero _ zero2 _ _).trans (congrArg k0_pay5 (View.ld_unit_zero zero2 _ _)))

/-- At a later point they are computed from the scratch the point before left. -/
theorem dist_B (s0 : Vec F S1000x128 .f32) (s1 : Vec F S1000x1 .f32) :
    kernelRun0_B.sl.r c a1 h1 a6 h6 a7 h7 x0 s0 s1 = k0_pay6 x0 s0 s1 := by
  unfold kernelRun0_B.sl.r
  rw [View.readAt_eq_ld, View.readAt_eq_ld, View.readAt_eq_ld, h1.read_unread, h6.read_unread, h7.read_unread]
  exact congr (congrArg₂ k0_pay6 (View.ld_unit_zero zero2 _ _) (View.ld_unit_zero zero2 _ _)) (View.ld_unit_zero zero2 _ _)

/-- The first point's three blocks and its two scratch arrays. -/
theorem left_A (hc : cond0_0 i) :
    let v := k0_pay6 x0 (k0_pay4 x1) (k0_pay5 x1)
    out0_A_2 c i a1 h1 a2 h2 a3 h3 a4 h4 a5 h5 a6 h6 a7 h7 hc x0 x1 = v
    ∧ out0_A_3 c i a1 h1 a2 h2 a3 h3 a4 h4 a5 h5 a6 h6 a7 h7 hc x0 x1 = assignOf v
    ∧ out0_A_4 c i a1 h1 a2 h2 a3 h3 a4 h4 a5 h5 a6 h6 a7 h7 hc x0 x1 = inertiaOf v
    ∧ sout0_A_0 c i a1 h1 a2 h2 a3 h3 a4 h4 a5 h5 a6 h6 a7 h7 hc x0 x1 = k0_pay4 x1
    ∧ sout0_A_1 c i a1 h1 a2 h2 a3 h3 a4 h4 a5 h5 a6 h6 a7 h7 hc x0 x1 = k0_pay5 x1 := by
  intro v
  have hx : View.readAt (Elt F) a2.view (Rect.unit ![0, 0] S1000x128.size inb_S1000x128_S1000x128_0_0).toLoadRect (h2.unread x1) = x1 := by
    rw [View.readAt_eq_ld, h2.read_unread]
    exact View.ld_unit_zero zero2 _ _
  have hv : kernelRun0_A.sl.r c a1 h1 a2 h2 a6 a7 x0 x1 = v := dist_A c a1 h1 a2 h2 a6 a7 x0 x1
  refine ⟨?_, ?_, ?_, ?_, ?_⟩
  · unfold out0_A_2
    rw [View.read_writes_junk_eq_canon]
    exact (View.canon_unit_zero zero2 _ _).trans hv
  · unfold out0_A_3
    rw [View.read_writes_junk_eq_canon, ← hv]
    exact View.canon_unit_zero zero3 _ _
  · unfold out0_A_4
    rw [View.read_writes_junk_eq_canon, ← hv]
    exact View.canon_unit_zero zero3 _ _
  · unfold sout0_A_0
    rw [View.read_writes_junk_eq_canon]
    exact (View.canon_unit_zero zero2 _ _).trans (congrArg k0_pay4 hx)
  · unfold sout0_A_1
    rw [View.read_writes_junk_eq_canon]
    exact (View.canon_unit_zero zero2 _ _).trans (congrArg k0_pay5 hx)

/-- A later point's three blocks; its two scratch arrays stay as they were. -/
theorem left_B (hc : ¬cond0_0 i) (s0 : Vec F S1000x128 .f32) (s1 : Vec F S1000x1 .f32) :
    let v := k0_pay6 x0 s0 s1
    out0_B_2 c i a1 h1 a2 h2 a3 h3 a4 h4 a5 h5 a6 h6 a7 h7 hc x0 x1 s0 s1 = v
    ∧ out0_B_3 c i a1 h1 a2 h2 a3 h3 a4 h4 a5 h5 a6 h6 a7 h7 hc x0 x1 s0 s1 = assignOf v
    ∧ out0_B_4 c i a1 h1 a2 h2 a3 h3 a4 h4 a5 h5 a6 h6 a7 h7 hc x0 x1 s0 s1 = inertiaOf v := by
  intro v
  have hv : kernelRun0_B.sl.r c a1 h1 a6 h6 a7 h7 x0 s0 s1 = v := dist_B c a1 h1 a6 h6 a7 h7 x0 s0 s1
  refine ⟨?_, ?_, ?_⟩
  · unfold out0_B_2
    rw [View.read_writes_junk_eq_canon]
    exact (View.canon_unit_zero zero2 _ _).trans hv
  · unfold out0_B_3
    rw [View.read_writes_junk_eq_canon, ← hv]
    exact View.canon_unit_zero zero3 _ _
  · unfold out0_B_4
    rw [View.read_writes_junk_eq_canon, ← hv]
    exact View.canon_unit_zero zero3 _ _

end Cert.Proof.Blocks
-- ==== Proof.Arrays.lean ====
/-
  The KERNEL's results: what each grid point leaves in its blocks, the region's three arrays after the last point, and the
  three buffers the operations after the region fill from them. For every interpretation of the floating-point operations.
-/
module

public import proofs.«01_k».proof.Proof.Blocks
public import Idealize.ShloMosaic.Lib.Pipeline.Value
public import Idealize.ShloMosaic.Lib.StableHlo.Run
public import Idealize.ShloMosaic.Lib.StableHlo.RunRead
public import Idealize.ShloMosaic.Lib.ValueIdx

@[expose] public section

set_option maxRecDepth 16384

noncomputable section

namespace Cert.Proof.Arrays

open Cert.KernelIdeal Cert.KernelIdeal.Gen Cert.Proof.Blocks
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg) (c : Dev nD)

/-! ## The blocks a grid point reads -/

/-- The points, as launched. -/
abbrev data : FVec F S16384x128 .f32 := m ((c : Thread nD τ).loc main_arg0)

/-- The centroids, as launched. -/
abbrev cents : FVec F S1000x128 .f32 := m ((c : Thread nD τ).loc main_arg1)

/-- The tile of points grid point `t` reads. -/
abbrev tile (t : Fin cfg0.N) : FVec F S2048x128 .f32 := iblk m c 0 t

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem lt_eight (t : Fin cfg0.N) : t.val < 8 := lt_of_lt_of_eq t.isLt N_0

/-- Tile `t` holds the points from `2048 t` on. -/
theorem tile_apply (t : Fin cfg0.N) (j : Fin 2048) (i : Fin 128) (h : 2048 * t.val + j.val < 16384) :
    tile m c t (ix2 j i) = data m c (ix2 ⟨2048 * t.val + j.val, h⟩ i) := by
  obtain ⟨e0, e1⟩ := index0 t
  have hb0 : (((cfg0.win 0).blk t).view.emb (ix2 j i) 0).val = win0_0.index t (0 : Fin 2) * 2048 + 1 * j.val := rfl
  have hb1 : (((cfg0.win 0).blk t).view.emb (ix2 j i) 1).val = win0_0.index t (1 : Fin 2) * 128 + 1 * i.val := rfl
  show V m c main_arg0 (((cfg0.win 0).blk t).view.emb (ix2 j i)) = _
  rw [V_main_arg0]
  refine congrArg (m ((c : Thread nD τ).loc main_arg0)) (funext fun a => Fin.ext ?_)
  match a with
  | ⟨0, _⟩ => exact hb0.trans (by rw [e0]; show t.val * 2048 + 1 * j.val = 2048 * t.val + j.val; omega)
  | ⟨1, _⟩ => exact hb1.trans (by rw [e1]; show 0 * 128 + 1 * i.val = i.val; omega)

/-- Every grid point reads all the centroids. -/
theorem cents_eq (t : Fin cfg0.N) : iblk m c 1 t = cents m c := by
  obtain ⟨e0, e1⟩ := index1 t
  funext y
  have hb0 : (((cfg0.win 1).blk t).view.emb y 0).val = win0_1.index t (0 : Fin 2) * 1000 + 1 * (y 0).val := rfl
  have hb1 : (((cfg0.win 1).blk t).view.emb y 1).val = win0_1.index t (1 : Fin 2) * 128 + 1 * (y 1).val := rfl
  show V m c main_arg1 (((cfg0.win 1).blk t).view.emb y) = _
  rw [V_main_arg1]
  refine congrArg (m ((c : Thread nD τ).loc main_arg1)) (funext fun a => Fin.ext ?_)
  match a with
  | ⟨0, _⟩ => exact hb0.trans (by rw [e0]; show 0 * 1000 + 1 * (y 0).val = (y 0).val; omega)
  | ⟨1, _⟩ => exact hb1.trans (by rw [e1]; show 0 * 128 + 1 * (y 1).val = (y 1).val; omega)

/-! ## What a grid point leaves -/

/-- The block of distances of grid point `t`. -/
def block (t : Fin cfg0.N) : FVec F S1000x2048 .f32 := k0_pay6 (tile m c t) (k0_pay4 (cents m c)) (k0_pay5 (cents m c))

/-- After every grid point: its block of distances, that block's assignments and inertias, and the scratch as the first point
    filled it. -/
theorem outs (n : ℕ) : ∀ hn : n < cfg0.N, outsAt0 m c n hn
    = (block m c ⟨n, hn⟩, assignOf (block m c ⟨n, hn⟩), inertiaOf (block m c ⟨n, hn⟩), k0_pay4 (cents m c), k0_pay5 (cents m c)) := by
  induction n with
  | zero =>
    intro hn
    obtain ⟨e0, e1, e2, e3, e4⟩ := left_A c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _)
      scM0_1 (Memref.isWhole_whole _) (tile m c ⟨0, hn⟩) (iblk m c 1 ⟨0, hn⟩) ((hcond0_0 ⟨0, hn⟩).mpr (Nat.zero_mod _))
    rw [outsAt0_A m c ⟨0, hn⟩ (Nat.zero_mod _), e0, e1, e2, e3, e4, cents_eq]
    rfl
  | succ n ih =>
    intro hn
    have h8 := lt_eight ⟨n + 1, hn⟩
    have h0 : ¬ (n + 1) % 8 = 0 := by
      have : n + 1 < 8 := h8
      omega
    obtain ⟨e0, e1, e2⟩ := left_B c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩)
      (hs0_4 ⟨n + 1, hn⟩) scM0_0 (Memref.isWhole_whole _) scM0_1 (Memref.isWhole_whole _) (tile m c ⟨n + 1, hn⟩)
      (iblk m c 1 ⟨n + 1, hn⟩) (fun h => h0 ((hcond0_0 ⟨n + 1, hn⟩).mp h)) (k0_pay4 (cents m c)) (k0_pay5 (cents m c))
    have ih' := ih (Nat.lt_of_succ_lt hn)
    rw [outsAt0_B m c ⟨n + 1, hn⟩ h0]
    simp only [Nat.add_sub_cancel]
    rw [ih', e0, e1, e2]
    rfl

/-! ## The region's arrays after the last point -/

/-- The grid point whose block holds point `n`'s results. -/
def owner (n : ℕ) (h : n < 16384) : Fin cfg0.N := ⟨n / 2048, lt_of_lt_of_eq (by omega : n / 2048 < 8) N_0.symm⟩

/-- Point `n`'s place in that block. -/
def place (n : ℕ) : Fin 2048 := ⟨n % 2048, Nat.mod_lt _ (by norm_num)⟩

theorem owner_of (t : Fin cfg0.N) (j : Fin 2048) (h : 2048 * t.val + j.val < 16384) : owner (2048 * t.val + j.val) h = t :=
  Fin.ext (show (2048 * t.val + j.val) / 2048 = t.val by have := j.isLt; omega)

theorem place_of (t : Fin cfg0.N) (j : Fin 2048) : place (2048 * t.val + j.val) = j :=
  Fin.ext (show (2048 * t.val + j.val) % 2048 = j.val by have := j.isLt; omega)

theorem index2 : ∀ t : Fin cfg0.N, win0_2.index t (0 : Fin 2) = 0 ∧ win0_2.index t (1 : Fin 2) = t.val ∧ win0_2.flush t = true :=
  (by decide +kernel : ∀ t : Fin grid0.N, _)

theorem index3 : ∀ t : Fin cfg0.N, win0_3.index t (0 : Fin 3) = t.val ∧ win0_3.index t (1 : Fin 3) = 0
    ∧ win0_3.index t (2 : Fin 3) = 0 ∧ win0_3.flush t = true :=
  (by decide +kernel : ∀ t : Fin grid0.N, _)

theorem index4 : ∀ t : Fin cfg0.N, win0_4.index t (0 : Fin 3) = t.val ∧ win0_4.index t (1 : Fin 3) = 0
    ∧ win0_4.index t (2 : Fin 3) = 0 ∧ win0_4.flush t = true :=
  (by decide +kernel : ∀ t : Fin grid0.N, _)

/-- The distances, centroids by points. -/
def distances : FVec F S1000x16384 .f32 := fun i => block m c (owner (i 1).val (i 1).isLt) (ix2 (i 0) (place (i 1).val))

/-- The assignments, tile by tile. -/
def assigned : IVec S8x1x2048 32 := fun i =>
  assignOf (block m c ⟨(i 0).val, lt_of_lt_of_eq (i 0).isLt N_0.symm⟩) (ix3 (0 : Fin 1) (0 : Fin 1) (i 2))

/-- The inertias, tile by tile. -/
def inertias : FVec F S8x1x2048 .f32 := fun i =>
  inertiaOf (block m c ⟨(i 0).val, lt_of_lt_of_eq (i 0).isLt N_0.symm⟩) (ix3 (0 : Fin 1) (0 : Fin 1) (i 2))

/-- The region leaves its first array at the distances. -/
theorem final2 : (dats m 0 c).arrAt 2 cfg0.N = distances m c := by
  refine (dats m 0 c).arrAt_eq_of_cover 2 _ (fun t _ => ?_) fun i => ?_
  · show (cfg0.win 2).cut (grid0.coords t) ((dats m 0 c).after 2 t) = _
    rw [after0_2, outs]
    obtain ⟨e0, e1, -⟩ := index2 t
    funext y
    have ht := lt_eight t
    have hy1 : (y 1).val < 2048 := (y 1).isLt
    have hb0 : (((cfg0.win 2).blk t).view.emb y 0).val = win0_2.index t (0 : Fin 2) * 1000 + 1 * (y 0).val := rfl
    have hb1 : (((cfg0.win 2).blk t).view.emb y 1).val = win0_2.index t (1 : Fin 2) * 2048 + 1 * (y 1).val := rfl
    have hn : 2048 * t.val + (y 1).val < 16384 := by omega
    have hemb : ((cfg0.win 2).blk t).view.emb y = ix2 (y 0) (⟨2048 * t.val + (y 1).val, hn⟩ : Fin 16384) := by
      funext a; apply Fin.ext
      match a with
      | ⟨0, _⟩ => exact hb0.trans (by rw [e0]; show 0 * 1000 + 1 * (y 0).val = (y 0).val; omega)
      | ⟨1, _⟩ => exact hb1.trans (by rw [e1]; show t.val * 2048 + 1 * (y 1).val = 2048 * t.val + (y 1).val; omega)
    have hx : (cfg0.win 2).xinj (grid0.coords t) y = ix2 (y 0) (y 1) := by
      funext a; apply Fin.ext
      match a with
      | ⟨0, _⟩ => rfl
      | ⟨1, _⟩ => rfl
    show block m c t ((cfg0.win 2).xinj (grid0.coords t) y) = distances m c (((cfg0.win 2).blk t).view.emb y)
    rw [hemb, hx]
    show _ = block m c (owner (2048 * t.val + (y 1).val) hn) (ix2 (y 0) (place (2048 * t.val + (y 1).val)))
    rw [owner_of t (y 1) hn, place_of t (y 1)]
    rfl
  · have h1 : (i 1).val < 16384 := (i 1).isLt
    have h0 : (i 0).val < 1000 := (i 0).isLt
    obtain ⟨e0, e1, ef⟩ := index2 (owner (i 1).val h1)
    have e1' : win0_2.index (owner (i 1).val h1) (1 : Fin 2) = (i 1).val / 2048 := e1
    refine ⟨owner (i 1).val h1, ef, ?_⟩
    show i ∈ ((View.whole (Pipeline.arrRef spec0 2)).slice (win0_2.rect (owner (i 1).val h1))).set
    rw [View.set_slice_whole, Rect.mem_set_unit]
    intro a
    match a with
    | ⟨0, _⟩ =>
      show win0_2.index (owner (i 1).val h1) (0 : Fin 2) * 1000 ≤ (i 0).val ∧ (i 0).val < win0_2.index (owner (i 1).val h1) (0 : Fin 2) * 1000 + 1000
      omega
    | ⟨1, _⟩ =>
      show win0_2.index (owner (i 1).val h1) (1 : Fin 2) * 2048 ≤ (i 1).val ∧ (i 1).val < win0_2.index (owner (i 1).val h1) (1 : Fin 2) * 2048 + 2048
      omega

/-- Where strip `t` of a tile-by-tile array lies, its block index being `(t, 0, 0)`: place `y` of the strip is place `y` of row `t`. -/
theorem strip_emb (t : Fin cfg0.N) (f : Fin 3 → ℕ) {p : Prop} (hf : f 0 = t.val ∧ f 1 = 0 ∧ f 2 = 0 ∧ p) (y : S1x1x2048.Idx) (i : S8x1x2048.Idx)
    (h0 : (i 0).val = f 0 * 1 + 1 * (y 0).val) (h1 : (i 1).val = f 1 * 1 + 1 * (y 1).val) (h2 : (i 2).val = f 2 * 2048 + 1 * (y 2).val) :
    i = ix3 (⟨t.val, lt_eight t⟩ : Fin 8) (0 : Fin 1) (y 2) := by
  obtain ⟨e0, e1, e2, -⟩ := hf
  have hy0 : (y 0).val < 1 := (y 0).isLt
  have hy1 : (y 1).val < 1 := (y 1).isLt
  rw [e0] at h0
  rw [e1] at h1
  rw [e2] at h2
  funext a; apply Fin.ext
  match a with
  | ⟨0, _⟩ => show (i 0).val = t.val; omega
  | ⟨1, _⟩ => show (i 1).val = 0; omega
  | ⟨2, _⟩ => show (i 2).val = (y 2).val; omega

/-- A place of a strip has first coordinates zero. -/
theorem strip_place (y x : S1x1x2048.Idx) (h : x = y) : x = ix3 (0 : Fin 1) (0 : Fin 1) (y 2) := by
  subst h
  have h0 : (x 0).val < 1 := (x 0).isLt
  have h1 : (x 1).val < 1 := (x 1).isLt
  funext a; apply Fin.ext
  match a with
  | ⟨0, _⟩ => show (x 0).val = 0; omega
  | ⟨1, _⟩ => show (x 1).val = 0; omega
  | ⟨2, _⟩ => rfl

/-- Every place of a tile-by-tile array lies in the strip of its row. -/
theorem strip_mem (i : S8x1x2048.Idx) (f : Fin 3 → ℕ) {p : Prop} (hf : f 0 = (i 0).val ∧ f 1 = 0 ∧ f 2 = 0 ∧ p) (a : Fin 3) :
    f a * S1x1x2048.size a ≤ (i a).val ∧ (i a).val < f a * S1x1x2048.size a + S1x1x2048.size a := by
  obtain ⟨e0, e1, e2, -⟩ := hf
  have h1 : (i 1).val < 1 := (i 1).isLt
  have h2 : (i 2).val < 2048 := (i 2).isLt
  match a with
  | ⟨0, _⟩ => show f 0 * 1 ≤ (i 0).val ∧ (i 0).val < f 0 * 1 + 1; omega
  | ⟨1, _⟩ => show f 1 * 1 ≤ (i 1).val ∧ (i 1).val < f 1 * 1 + 1; omega
  | ⟨2, _⟩ => show f 2 * 2048 ≤ (i 2).val ∧ (i 2).val < f 2 * 2048 + 2048; omega

/-- The region leaves its second array at the assignments. -/
theorem final3 : (dats m 0 c).arrAt 3 cfg0.N = assigned m c := by
  refine (dats m 0 c).arrAt_eq_of_cover 3 _ (fun t _ => ?_) fun i => ?_
  · show (cfg0.win 3).cut (grid0.coords t) ((dats m 0 c).after 3 t) = _
    rw [after0_3, outs]
    funext y
    show assignOf (block m c t) ((cfg0.win 3).xinj (grid0.coords t) y) = assigned m c (((cfg0.win 3).blk t).view.emb y)
    rw [strip_emb t _ (index3 t) y (((cfg0.win 3).blk t).view.emb y) rfl rfl rfl, strip_place y ((cfg0.win 3).xinj (grid0.coords t) y) rfl]
    rfl
  · have hN : (i 0).val < cfg0.N := lt_of_lt_of_eq (i 0).isLt N_0.symm
    refine ⟨⟨(i 0).val, hN⟩, (index3 ⟨(i 0).val, hN⟩).2.2.2, ?_⟩
    show i ∈ ((View.whole (Pipeline.arrRef spec0 3)).slice (win0_3.rect ⟨(i 0).val, hN⟩)).set
    rw [View.set_slice_whole, Rect.mem_set_unit]
    exact strip_mem i _ (index3 ⟨(i 0).val, hN⟩)

/-- The region leaves its third array at the inertias. -/
theorem final4 : (dats m 0 c).arrAt 4 cfg0.N = inertias m c := by
  refine (dats m 0 c).arrAt_eq_of_cover 4 _ (fun t _ => ?_) fun i => ?_
  · show (cfg0.win 4).cut (grid0.coords t) ((dats m 0 c).after 4 t) = _
    rw [after0_4, outs]
    funext y
    show inertiaOf (block m c t) ((cfg0.win 4).xinj (grid0.coords t) y) = inertias m c (((cfg0.win 4).blk t).view.emb y)
    rw [strip_emb t _ (index4 t) y (((cfg0.win 4).blk t).view.emb y) rfl rfl rfl, strip_place y ((cfg0.win 4).xinj (grid0.coords t) y) rfl]
    rfl
  · have hN : (i 0).val < cfg0.N := lt_of_lt_of_eq (i 0).isLt N_0.symm
    refine ⟨⟨(i 0).val, hN⟩, (index4 ⟨(i 0).val, hN⟩).2.2.2, ?_⟩
    show i ∈ ((View.whole (Pipeline.arrRef spec0 4)).slice (win0_4.rect ⟨(i 0).val, hN⟩)).set
    rw [View.set_slice_whole, Rect.mem_set_unit]
    exact strip_mem i _ (index4 ⟨(i 0).val, hN⟩)

/-! ## The operations after the region -/

theorem tail0 (W : Valuation τ sig (Elt F)) : StableHlo.after (List.flatten [hostOps1]) W (main_v0_0 : DevRef τ sig)
    = transpose S16384x1000 [1, 0] (W (main_call0_v0_0 : DevRef τ sig)) transposes_S1000x16384_S16384x1000_1_0 := by
  after_reads_simp
  rfl

theorem tail1 (W : Valuation τ sig (Elt F)) : StableHlo.after (List.flatten [hostOps1]) W (main_v0_1 : DevRef τ sig)
    = shapeCast S16384 (W (main_call0_v0_1 : DevRef τ sig)) shapeCasts_S8x1x2048_S16384 := by
  after_reads_simp
  rfl

theorem tail2 (W : Valuation τ sig (Elt F)) : StableHlo.after (List.flatten [hostOps1]) W (main_v0_2 : DevRef τ sig)
    = shapeCast S16384 (W (main_call0_v0_2 : DevRef τ sig)) shapeCasts_S8x1x2048_S16384 := by
  after_reads_simp
  rfl

/-- The run of the kernel: its three results, and its arguments unchanged. -/
theorem run : θ_run defs (onTc (τ := τ) (main (F := F))) ⟨m, fun _ => 0, ρ⟩ (fun r => ∀ c : Dev nD,
      r.2.mem ((c.tc : Thread nD τ).loc main_v0_0)
        = transpose S16384x1000 [1, 0] (distances m c) transposes_S1000x16384_S16384x1000_1_0
      ∧ r.2.mem ((c.tc : Thread nD τ).loc main_v0_1) = shapeCast S16384 (assigned m c) shapeCasts_S8x1x2048_S16384
      ∧ r.2.mem ((c.tc : Thread nD τ).loc main_v0_2) = shapeCast S16384 (inertias m c) shapeCasts_S8x1x2048_S16384
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨hp, hu⟩ := h
  have hr : ∀ b ∈ Pipeline.restRefs sig spec0, r.2.mem ((c.tc : Thread nD τ).loc b)
      = Pipeline.afterTail₀ cfgs (dats m) 0 (V0 m) [hostOps1] c b := (hp c).2
  have hw : ∀ w : Fin cfg0.W, Pipeline.withArrays spec0 c (V0 m c) (fun w => (dats m 0 c).arrAt w cfg0.N)
      (Proc.devRef .tc (Pipeline.arrRef spec0 w)) = (dats m 0 c).arrAt w cfg0.N :=
    Pipeline.withArrays_arr spec0 launch0.win.arr_inj c (V0 m c) fun w => (dats m 0 c).arrAt w cfg0.N
  refine ⟨(hr main_v0_0 (by decide)).trans ?_, (hr main_v0_1 (by decide)).trans ?_, (hr main_v0_2 (by decide)).trans ?_, hu c⟩
  · refine (tail0 _).trans ?_
    rw [← final2]
    exact congrArg (fun x => transpose S16384x1000 [1, 0] x transposes_S1000x16384_S16384x1000_1_0) (hw 2)
  · refine (tail1 _).trans ?_
    rw [← final3]
    exact congrArg (fun x => shapeCast S16384 x shapeCasts_S8x1x2048_S16384) (hw 3)
  · refine (tail2 _).trans ?_
    rw [← final4]
    exact congrArg (fun x => shapeCast S16384 x shapeCasts_S8x1x2048_S16384) (hw 4)

end Cert.Proof.Arrays
-- ==== Proof.Dist.lean ====
/-
  One distance, read at the extended reals: what the kernel computes from a point's and a centroid's 128 entries, what the
  reference computes from them, and that the two agree when the entries are finite and the squared distance is at least the
  kernel's lower bound.
-/
module

public import proofs.«01_k».proof.Proof.Gen.KernelIdeal.Frame
public import Idealize.ShloMosaic.PureOps.Ideal.Laws
public import Idealize.ShloMosaic.Lib.IdealHost
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

set_option maxRecDepth 16384

noncomputable section

namespace Cert.Proof.Dist

open Idealize.ShloMosaic Idealize.ShloMosaic.TcCoe Idealize.ShloMosaic.ValueIdx Idealize.SL.Sem

/-! ## The two expressions -/

/-- The kernel's lower bound on a squared distance. -/
def tiny : EReal := Ideal.ofBits .f32 0x00800000#32

/-- The reference's squared distance of a point `p` and a centroid `q`. -/
def square (p q : Fin 128 → EReal) : EReal :=
  (∑ i, p i * p i + ∑ i, q i * q i) - 2 * ∑ i, p i * q i

/-- The reference's distance. -/
def refDist (p q : Fin 128 → EReal) : EReal := Ideal.sqrt (max (square p q) 0)

/-- The kernel's squared distance, cut off below. -/
def kerSquare (p q : Fin 128 → EReal) : EReal :=
  max ((∑ i, q i * q i + ∑ i, p i * p i) + ∑ i, q i * (-2) * p i) tiny

/-- The kernel's distance. -/
def kerDist (p q : Fin 128 → EReal) : EReal := kerSquare p q * Ideal.rsqrt (kerSquare p q)

/-! ## They agree -/

theorem tiny_eq : tiny = ((2 ^ (-126 : ℤ) : ℝ) : EReal) := by
  simp [tiny, Ideal.ofBits, Ideal.ieee]
  rw [← EReal.coe_mul]
  norm_num

theorem ofBits_two : Ideal.ofBits .f32 0x40000000#32 = (2 : EReal) := by
  simp [Ideal.ofBits, Ideal.ieee]
  rw [← EReal.coe_mul]
  norm_num
  rfl

theorem ofBits_neg_two : Ideal.ofBits .f32 0xC0000000#32 = (-2 : EReal) := by
  simp [Ideal.ofBits, Ideal.ieee]
  rw [← EReal.coe_mul]
  norm_num
  rfl

/-- A sum of reals is the same sum read at the extended reals. -/
theorem sum_coe (f : Fin 128 → ℝ) : ∑ i, ((f i : ℝ) : EReal) = ((∑ i, f i : ℝ) : EReal) := by
  induction (Finset.univ : Finset (Fin 128)) using Finset.induction_on with
  | empty => simp
  | insert a s ha ih => rw [Finset.sum_insert ha, Finset.sum_insert ha, ih, EReal.coe_add]

/-- An extended real whose absolute value is below the top is a real. -/
theorem exists_real {x : EReal} (h : max x (-x) < ⊤) : ∃ r : ℝ, x = r := by
  induction x with
  | bot => simp at h
  | top => simp at h
  | coe r => exact ⟨r, rfl⟩

/-- At finite entries with a squared distance at least the bound, the kernel's distance is the reference's, a real number. -/
theorem dist_eq (p q : Fin 128 → EReal) (hp : ∀ i, max (p i) (-p i) < ⊤) (hq : ∀ i, max (q i) (-q i) < ⊤)
    (h : tiny ≤ square p q) : kerDist p q = refDist p q ∧ refDist p q < ⊤ := by
  choose a ha using fun i => exists_real (hp i)
  choose b hb using fun i => exists_real (hq i)
  have h2 : (2 : EReal) = ((2 : ℝ) : EReal) := rfl
  have hn2 : (-2 : EReal) = ((-2 : ℝ) : EReal) := rfl
  have hs : square p q = ((∑ i, a i * a i + ∑ i, b i * b i - 2 * ∑ i, a i * b i : ℝ) : EReal) := by
    simp only [square, ha, hb, ← EReal.coe_mul, sum_coe, h2, ← EReal.coe_add, ← EReal.coe_sub]
  have hk : (∑ i, q i * q i + ∑ i, p i * p i) + ∑ i, q i * (-2) * p i = square p q := by
    rw [hs]
    simp only [ha, hb, hn2, ← EReal.coe_mul, sum_coe, ← EReal.coe_add]
    congr 1
    rw [show ∑ i, b i * -2 * a i = -2 * ∑ i, a i * b i by
      rw [Finset.mul_sum]; exact Finset.sum_congr rfl fun i _ => by ring]
    ring
  have hks : kerSquare p q = square p q := by rw [kerSquare, hk, max_eq_left h]
  unfold kerDist refDist
  rw [hks]
  rw [hs, tiny_eq, EReal.coe_le_coe_iff] at h
  rw [hs]
  generalize (∑ i, a i * a i + ∑ i, b i * b i - 2 * ∑ i, a i * b i : ℝ) = r at h
  have hr : 0 < r := lt_of_lt_of_le (by positivity) h
  rw [max_eq_left (by exact_mod_cast hr.le), Ideal.sqrt_coe, Ideal.rsqrt_coe, if_neg (not_lt.2 hr.le), if_neg (not_lt.2 hr.le),
    if_neg hr.ne', ← EReal.coe_mul]
  refine ⟨congrArg _ ?_, EReal.coe_lt_top _⟩
  rw [← div_eq_mul_inv, Real.div_sqrt]

/-! ## The kernel's block at an index -/

section Kernel
open Cert.KernelIdeal Cert.KernelIdeal.Gen

theorem numeral (b : BitVec 32) : Scalar.ofBits (F := Ideal) .f32 b = Ideal.ofBits .f32 b := rfl

/-- The centroids times minus two. -/
theorem pay4_apply (x : FVec Ideal S1000x128 .f32) (k : Fin 1000) (i : Fin 128) :
    k0_pay4 x (ix2 k i) = x (ix2 k i) * (-2) := by
  unfold k0_pay4
  rw [shapeCast_self, mulf_apply, broadcast_apply, numeral, ofBits_neg_two]

/-- The centroids' squared lengths. -/
theorem pay5_apply (x : FVec Ideal S1000x128 .f32) (k : Fin 1000) :
    k0_pay5 x (ix2 k (0 : Fin 1)) = ∑ i : Fin 128, x (ix2 k i) * x (ix2 k i) := by
  unfold k0_pay5
  rw [shapeCast_self]
  refine (shapeCast_a_a1_apply (a := 1000) (multiReduction .add [1] S1000 (mulf x x) 0x00000000#32 reduces_S1000x128_S1000 (.inl rfl) rfl)
    shapeCasts_S1000_S1000x1 k 0).trans ((Ideal.multiReduction_add_single _ _ _ _ rfl _).trans ?_)
  refine Finset.sum_congr rfl fun i _ => ?_
  rw [mulf_apply]
  have e : reduces_S1000x128_S1000.lift (ix1 k) i = ix2 k i := by
    funext a; apply Fin.ext
    match a with
    | ⟨0, _⟩ => rfl
    | ⟨1, _⟩ => rfl
  rw [e]
  rfl

/-- A block of distances from a tile of points and the scratch arrays, at a centroid and a point. -/
theorem pay6_apply (x : FVec Ideal S2048x128 .f32) (y : FVec Ideal S1000x128 .f32) (k : Fin 1000) (j : Fin 2048) :
    k0_pay6 (F := Ideal) x (k0_pay4 (F := Ideal) y) (k0_pay5 (F := Ideal) y) (ix2 k j) = kerDist (fun i => x (ix2 j i)) (fun i => y (ix2 k i)) := by
  have ht : ∀ i : Fin 128, transpose S128x2048 [1, 0] x transposes_S2048x128_p1_0_S128x2048 (ix2 i j) = x (ix2 j i) := fun i =>
    transpose_apply _ _ _ _ _ fun b => by
      match b with
      | ⟨0, _⟩ => rfl
      | ⟨1, _⟩ => rfl
  have hx : broadcastTo S1000x2048 (shapeCast S1x2048
        (multiReduction .add [0] S2048 (mulf (transpose S128x2048 [1, 0] x transposes_S2048x128_p1_0_S128x2048)
          (transpose S128x2048 [1, 0] x transposes_S2048x128_p1_0_S128x2048)) 0x00000000#32 reduces_S128x2048_S2048 (.inl rfl) rfl)
        shapeCasts_S2048_S1x2048) broadcasts_S1x2048_S1000x2048 (ix2 k j) = ∑ i : Fin 128, x (ix2 j i) * x (ix2 j i) := by
    refine (broadcastTo_apply _ _ _ (ix2 (0 : Fin 1) j) fun a => ?_).trans ?_
    · match a with
      | ⟨0, _⟩ => rfl
      | ⟨1, _⟩ => rfl
    refine (shapeCast_a_1a_apply (a := 2048) _ _ 0 j).trans ((Ideal.multiReduction_add_single _ _ _ _ rfl _).trans ?_)
    refine Finset.sum_congr rfl fun i _ => ?_
    have e : reduces_S128x2048_S2048.lift (ix1 j) i = ix2 i j := by
      funext a; apply Fin.ext
      match a with
      | ⟨0, _⟩ => rfl
      | ⟨1, _⟩ => rfl
    rw [mulf_apply, e]
    exact congrArg₂ (fun a b : EReal => a * b) (ht i) (ht i)
  have hc : broadcastTo S1000x2048 (k0_pay5 y) broadcasts_S1000x1_S1000x2048 (ix2 k j) = ∑ i : Fin 128, y (ix2 k i) * y (ix2 k i) := by
    refine (broadcastTo_apply _ _ _ (ix2 k (0 : Fin 1)) fun a => ?_).trans (pay5_apply y k)
    match a with
    | ⟨0, _⟩ => rfl
    | ⟨1, _⟩ => rfl
  have hm : matmul dot_S1000x128_S128x2048_S1000x2048_1_0_0_1_n_n none (k0_pay4 y)
      (transpose S128x2048 [1, 0] x transposes_S2048x128_p1_0_S128x2048) (constant S1000x2048 .f32 0x00000000#32) (ix2 k j)
        = ∑ i : Fin 128, y (ix2 k i) * (-2) * x (ix2 j i) := by
    refine (Ideal.matmul_plain_apply (M := 1000) (K := 128) (N := 2048) none (k0_pay4 y)
      (transpose S128x2048 [1, 0] x transposes_S2048x128_p1_0_S128x2048) (constant S1000x2048 .f32 0x00000000#32) k j).trans ?_
    rw [constant_apply, Ideal.ofBits_zero_f32, zero_add]
    exact Finset.sum_congr rfl fun i _ => by rw [pay4_apply, ht]
  unfold k0_pay6
  rw [mulf_apply]
  have hs : maximumf (addf (addf (broadcastTo S1000x2048 (k0_pay5 y) broadcasts_S1000x1_S1000x2048)
      (broadcastTo S1000x2048 (shapeCast S1x2048
        (multiReduction .add [0] S2048 (mulf (transpose S128x2048 [1, 0] x transposes_S2048x128_p1_0_S128x2048)
          (transpose S128x2048 [1, 0] x transposes_S2048x128_p1_0_S128x2048)) 0x00000000#32 reduces_S128x2048_S2048 (.inl rfl) rfl)
        shapeCasts_S2048_S1x2048) broadcasts_S1x2048_S1000x2048))
      (matmul dot_S1000x128_S128x2048_S1000x2048_1_0_0_1_n_n none (k0_pay4 y)
        (transpose S128x2048 [1, 0] x transposes_S2048x128_p1_0_S128x2048) (constant S1000x2048 .f32 0x00000000#32)))
      (broadcast S1000x2048 (Scalar.ofBits .f32 0x00800000#32)) (ix2 k j) = kerSquare (fun i => x (ix2 j i)) (fun i => y (ix2 k i)) := by
    rw [maximumf_apply, addf_apply, addf_apply, hx, hc, hm, broadcast_apply, numeral]
    rfl
  exact congrArg (fun s => s * Ideal.rsqrt s) hs

end Kernel

end Cert.Proof.Dist
-- ==== Proof.Scan.lean ====
/-
  The kernel's search for the nearest centroid, read at the extended reals: a running minimum over 125 groups of eight rows,
  then a minimum over the eight places, finds the FIRST least entry of a column of 1000, and that entry.
-/
module

public import proofs.«01_k».proof.Proof.Blocks
public import Idealize.ShloMosaic.PureOps.Ideal.Laws
public import Idealize.ShloMosaic.Lib.Pipeline.Value
public import Idealize.ShloMosaic.Lib.ValueIdx
public import Idealize.ShloMosaic.Lib.ValueLayout

@[expose] public section

set_option maxRecDepth 16384

noncomputable section

namespace Cert.Proof.Scan

open Cert.KernelIdeal Cert.KernelIdeal.Gen Cert.Proof.Blocks
open Idealize.ShloMosaic Idealize.ShloMosaic.TcCoe Idealize.ShloMosaic.ValueIdx Idealize.SL.Sem

/-! ## The first least entry -/

/-- `k` is the place of the first least entry of `d` below `n`. -/
structure IsFirst (d : ℕ → EReal) (n k : ℕ) : Prop where
  lt : k < n
  le : ∀ i < n, d k ≤ d i
  first : ∀ i < n, d i = d k → k ≤ i

/-- There is only one. -/
theorem IsFirst.unique {d : ℕ → EReal} {n k l : ℕ} (hk : IsFirst d n k) (hl : IsFirst d n l) : k = l :=
  have h : d k = d l := le_antisymm (hk.le l hl.lt) (hl.le k hk.lt)
  le_antisymm (hk.first l hl.lt h.symm) (hl.first k hk.lt h)

/-! ## The numerals -/

/-- A pattern whose sign is clear, whose exponent and fraction are `e` and `f` (a normal number) names the natural number `n`
    when `(2 ^ 23 + f) 2 ^ e = n 2 ^ 150`. -/
theorem ofBits_nat (b : BitVec 32) (n : ℕ) (hs : b.extractLsb' 31 1 = 0#1) (h0 : (b.extractLsb' 23 8).toNat ≠ 0)
    (h1 : (b.extractLsb' 23 8).toNat ≠ 255)
    (h : (2 ^ 23 + (b.extractLsb' 0 23).toNat) * 2 ^ (b.extractLsb' 23 8).toNat = n * 2 ^ 150) :
    Ideal.ofBits .f32 b = ((n : ℝ) : EReal) := by
  have hr : ((2 ^ 23 + (b.extractLsb' 0 23).toNat : ℕ) : ℝ) * 2 ^ (b.extractLsb' 23 8).toNat = n * 2 ^ 150 := by
    exact_mod_cast congrArg (Nat.cast (R := ℝ)) h
  simp only [Ideal.ofBits, Ideal.ieee]
  rw [if_neg (by simpa using h1), if_neg h0, if_neg (by rw [hs]; decide)]
  congr 1
  rw [one_mul, show (((b.extractLsb' 23 8).toNat : ℤ) - (2 ^ (8 - 1) - 1) - (23 : ℕ)) = ((b.extractLsb' 23 8).toNat : ℤ) - (150 : ℕ) by
    omega, zpow_sub₀ (by norm_num), zpow_natCast, zpow_natCast, ← mul_div_assoc, hr, mul_div_assoc, div_self (by positivity), mul_one]

theorem word_fields : ∀ n < 125, n ≠ 0 → (word n).extractLsb' 31 1 = 0#1 ∧ ((word n).extractLsb' 23 8).toNat ≠ 0
    ∧ ((word n).extractLsb' 23 8).toNat ≠ 255
    ∧ (2 ^ 23 + ((word n).extractLsb' 0 23).toNat) * 2 ^ ((word n).extractLsb' 23 8).toNat = n * 2 ^ 150 := by
  decide +kernel

/-- The group numbers' patterns name them. -/
theorem ofBits_word (n : ℕ) (h : n < 125) : Ideal.ofBits .f32 (word n) = ((n : ℝ) : EReal) := by
  by_cases h0 : n = 0
  · subst h0; simp [word, Ideal.ofBits_zero_f32]
  · obtain ⟨a, b, c, d⟩ := word_fields n h h0
    exact ofBits_nat _ n a b c d

theorem ofBits_eight : Ideal.ofBits .f32 0x41000000#32 = ((8 : ℕ) : ℝ) :=
  ofBits_nat _ 8 (by decide) (by decide) (by decide) (by decide +kernel)

theorem ofBits_thousand : Ideal.ofBits .f32 0x447A0000#32 = ((1000 : ℕ) : ℝ) :=
  ofBits_nat _ 1000 (by decide) (by decide) (by decide) (by decide +kernel)

theorem ofBits_inf : Ideal.ofBits .f32 0x7F800000#32 = ⊤ := by simp [Ideal.ofBits, Ideal.ieee]

/-- A natural number below `2 ^ 31` converts to itself. -/
theorem fptosi_nat (n : ℕ) (h : n < 2 ^ 31) : Ideal.fptosi 32 ((n : ℝ) : EReal) = BitVec.ofNat 32 n := by
  rw [Ideal.fptosi, Ideal.toIntClamped_coe, if_pos (by positivity), Int.floor_natCast]
  rw [show max (-((2 ^ (32 - 1) : ℕ) : ℤ)) (min (((2 ^ (32 - 1) : ℕ) : ℤ) - 1) (n : ℤ)) = (n : ℤ) by omega]
  exact BitVec.ofInt_natCast 32 n

/-! ## Minima -/

/-- The minimum of finitely many entries, from the top, is one of them. -/
theorem fold_min_attained {n : ℕ} [NeZero n] (f : Fin n → EReal) :
    ∃ s, (Finset.univ : Finset (Fin n)).fold min ⊤ f = f s ∧ ∀ t, f s ≤ f t := by
  obtain ⟨s, hs⟩ := Finite.exists_min f
  refine ⟨s, le_antisymm (Finset.fold_min_le _ |>.2 (.inr ⟨s, Finset.mem_univ s, le_rfl⟩)) ?_, hs⟩
  exact Finset.le_fold_min _ |>.2 ⟨le_top, fun t _ => hs t⟩

/-- Column `j` of a block, by row number. -/
def col (v : FVec Ideal S1000x2048 .f32) (j : Fin 2048) (k : ℕ) : EReal := if h : k < 1000 then v (ix2 ⟨k, h⟩ j) else ⊤

theorem rows_apply (v : FVec Ideal S1000x2048 .f32) (n : ℕ) (h : n < 125) (s : Fin 8) (j : Fin 2048) :
    rows v n h (ix2 s j) = col v j (8 * n + s.val) := by
  have hs := s.isLt
  rw [col, dif_pos (by omega)]
  exact extractStridedSlice_apply _ _ _ _ _ fun a => by
    match a with
    | ⟨0, _⟩ => rfl
    | ⟨1, _⟩ => show j.val = 0 + j.val; omega

theorem numeral (b : BitVec 32) : Scalar.ofBits (F := Ideal) .f32 b = Ideal.ofBits .f32 b := rfl

theorem less_apply (v : FVec Ideal S1000x2048 .f32) (n : ℕ) (h : n + 1 < 125) (i : S8x2048.Idx) :
    less v n h i = Ideal.cmp .olt (rows v (n + 1) h i) (best v n (Nat.lt_of_succ_lt h) i) := by
  rw [less_eq, cmpf_apply, Ideal.cmpf_def]

/-- After groups `0` to `n`, at place `s`: the least entry of the groups' places, and the first group that has it. -/
theorem scan (v : FVec Ideal S1000x2048 .f32) (s : Fin 8) (j : Fin 2048) (n : ℕ) (h : n < 125) :
    ∃ a, IsFirst (fun r => col v j (8 * r + s.val)) (n + 1) a
      ∧ best v n h (ix2 s j) = col v j (8 * a + s.val) ∧ arg v n h (ix2 s j) = ((a : ℝ) : EReal) := by
  induction n with
  | zero =>
    rw [best_zero, arg_zero, rows_apply, broadcast_apply, numeral, ofBits_word 0 h]
    refine ⟨0, ⟨by omega, fun i hi => ?_, fun i _ _ => by omega⟩, rfl, rfl⟩
    rw [show i = 0 by omega]
  | succ n ih =>
    obtain ⟨a, ha, hb, hg⟩ := ih (Nat.lt_of_succ_lt h)
    rw [best_succ, arg_succ, select_apply, select_apply, less_apply, hb, hg, rows_apply, broadcast_apply, numeral, ofBits_word _ h]
    by_cases hlt : col v j (8 * (n + 1) + s.val) < col v j (8 * a + s.val)
    · have hc : Ideal.cmp .olt (col v j (8 * (n + 1) + s.val)) (col v j (8 * a + s.val)) = 1#1 := by simp [Ideal.cmp, hlt]
      rw [hc]
      refine ⟨n + 1, ⟨by omega, fun i hi => ?_, fun i hi he => ?_⟩, rfl, rfl⟩
      · rcases Nat.lt_succ_iff_lt_or_eq.1 hi with hi | rfl
        · exact hlt.le.trans (ha.le i hi)
        · exact le_rfl
      · rcases Nat.lt_succ_iff_lt_or_eq.1 hi with hi | rfl
        · exact absurd (ha.le i hi) (not_le.2 (he ▸ hlt))
        · exact le_rfl
    · have hc : Ideal.cmp .olt (col v j (8 * (n + 1) + s.val)) (col v j (8 * a + s.val)) = 0#1 := by simp [Ideal.cmp, hlt]
      rw [hc]
      refine ⟨a, ⟨ha.lt.trans (Nat.lt_succ_self _), fun i hi => ?_, fun i hi he => ?_⟩, rfl, rfl⟩
      · rcases Nat.lt_succ_iff_lt_or_eq.1 hi with hi | rfl
        · exact ha.le i hi
        · exact not_lt.1 hlt
      · rcases Nat.lt_succ_iff_lt_or_eq.1 hi with hi | rfl
        · exact ha.first i hi he
        · exact ha.lt.le

/-! ## The two results of a column -/

/-- A minimum over the eight places, read at a column. -/
theorem min_apply (x : FVec Ideal S8x2048 .f32) (j : Fin 2048) :
    multiReduction .minimumf [0] S2048 x 0x7F800000#32 reduces_S8x2048_S2048 (.inl rfl) rfl (ix1 j)
      = (Finset.univ : Finset (Fin 8)).fold min ⊤ fun s => x (ix2 s j) := by
  refine (multiReduction_minimumf_eq_fold x _ _ _ rfl _).trans ((Shape.Reduces.fold_filter_drop_single _ _ _ _ _).trans ?_)
  show Finset.fold min (Ideal.ofBits .f32 0x7F800000#32) _ _ = _
  rw [ofBits_inf]
  refine congrArg (fun g => Finset.fold min ⊤ g (Finset.univ : Finset (Fin 8))) (funext fun s => congrArg x ?_)
  funext a
  apply Fin.ext
  match a with
  | ⟨0, _⟩ => rfl
  | ⟨1, _⟩ => rfl

/-- The kernel's least entry of a column. -/
theorem pay1_apply (x : FVec Ideal S8x2048 .f32) (j : Fin 2048) :
    k0_pay1 x (ix2 (0 : Fin 1) j) = (Finset.univ : Finset (Fin 8)).fold min ⊤ fun s => x (ix2 s j) :=
  (shapeCast_a_1a_apply (a := 2048)
    (multiReduction .minimumf [0] S2048 x 0x7F800000#32 reduces_S8x2048_S2048 (.inl rfl) rfl) shapeCasts_S2048_S1x2048 0 j).trans
    (min_apply x j)

/-- A candidate, read at a place. -/
theorem candidates_apply (g b : FVec Ideal S8x2048 .f32) (s : Fin 8) (j : Fin 2048) :
    candidates g b (ix2 s j)
      = Scalar.select (Ideal.cmp .oeq (b (ix2 s j)) (k0_pay1 b (ix2 (0 : Fin 1) j)))
          (g (ix2 s j) * ((8 : ℕ) : ℝ) + ((s.val : ℝ) : EReal)) (((1000 : ℕ) : ℝ) : EReal) := by
  have hb : broadcastTo S8x2048 (k0_pay1 b) broadcasts_S1x2048_S8x2048 (ix2 s j) = k0_pay1 b (ix2 (0 : Fin 1) j) :=
    broadcastTo_apply _ _ _ _ fun a => by
      match a with
      | ⟨0, _⟩ => rfl
      | ⟨1, _⟩ => rfl
  have hi : (sitofp .f32 (iota .tc S8x2048 32 [0] iota_S8x2048_d0_w32) : FVec Ideal S8x2048 .f32) (ix2 s j) = ((s.val : ℝ) : EReal) := by
    have h : (BitVec.ofNat 32 s.val).toInt = (s.val : ℤ) := by
      rw [BitVec.toInt_eq_toNat_of_lt] <;> simp only [BitVec.toNat_ofNat] <;> omega
    show (((BitVec.ofNat 32 (0 * 8 + s.val)).toInt : ℝ) : EReal) = _
    rw [Nat.zero_mul, Nat.zero_add, h, Int.cast_natCast]
  unfold candidates
  rw [select_apply, cmpf_apply, hb, addf_apply, mulf_apply, hi, broadcast_apply, broadcast_apply, numeral, numeral, ofBits_eight,
    ofBits_thousand, Ideal.cmpf_def]

theorem assignOf_apply (v : FVec Ideal S1000x2048 .f32) (j : Fin 2048) :
    assignOf v (ix3 (0 : Fin 1) (0 : Fin 1) j)
      = Ideal.fptosi 32 ((Finset.univ : Finset (Fin 8)).fold min ⊤ fun s =>
          candidates (arg v 124 (by decide)) (best v 124 (by decide)) (ix2 s j)) := by
  rw [assignOf_eq]
  refine (shapeCast_apply _ _ _ (ix1 j) ?_).trans (congrArg (Ideal.fptosi 32) (min_apply _ j))
  rw [Shape.rowMajor_val_one, Shape.rowMajor_val_three]
  show j.val = (0 * 1 + 0) * 2048 + j.val
  omega

theorem inertiaOf_apply (v : FVec Ideal S1000x2048 .f32) (j : Fin 2048) :
    inertiaOf v (ix3 (0 : Fin 1) (0 : Fin 1) j)
      = k0_pay1 (best v 124 (by decide)) (ix2 (0 : Fin 1) j) * k0_pay1 (best v 124 (by decide)) (ix2 (0 : Fin 1) j) := by
  rw [inertiaOf_eq]
  exact shapeCast_ab_1ab_apply (a := 1) (b := 2048)
    (mulf (k0_pay1 (best v 124 (by decide))) (k0_pay1 (best v 124 (by decide)))) shapeCasts_S1x2048_S1x1x2048 0 0 j

/-- The least of the candidates, over the eight places: the place of the first least entry of the column, when each place has
    the first least entry of its own rows. -/
theorem pick (d : ℕ → EReal) (a : Fin 8 → ℕ) (b : Fin 8 → EReal) (ha : ∀ s, IsFirst (fun r => d (8 * r + s.val)) 125 (a s))
    (hb : ∀ s, b s = d (8 * a s + s.val)) :
    ∃ k, IsFirst d 1000 k ∧ (Finset.univ : Finset (Fin 8)).fold min ⊤ b = d k
      ∧ ((Finset.univ : Finset (Fin 8)).fold min ⊤ fun s =>
          Scalar.select (Ideal.cmp .oeq (b s) ((Finset.univ : Finset (Fin 8)).fold min ⊤ b))
            (((a s : ℝ) : EReal) * (((8 : ℕ) : ℝ) : EReal) + ((s.val : ℝ) : EReal)) (((1000 : ℕ) : ℝ) : EReal)) = ((k : ℝ) : EReal) := by
  obtain ⟨s₀, hm, hs₀⟩ := fold_min_attained b
  -- the candidate of a place, as a natural number
  let c : Fin 8 → ℕ := fun s => if b s = b s₀ then 8 * a s + s.val else 1000
  have hc : ∀ s, Scalar.select (Ideal.cmp .oeq (b s) (b s₀))
      (((a s : ℝ) : EReal) * (((8 : ℕ) : ℝ) : EReal) + ((s.val : ℝ) : EReal)) (((1000 : ℕ) : ℝ) : EReal) = ((c s : ℝ) : EReal) := fun s => by
    by_cases h : b s = b s₀
    · rw [show Ideal.cmp .oeq (b s) (b s₀) = 1#1 by simp [Ideal.cmp, h],
        select_one, show c s = 8 * a s + s.val from if_pos h, ← EReal.coe_mul, ← EReal.coe_add]
      congr 1
      push_cast
      ring
    · rw [show Ideal.cmp .oeq (b s) (b s₀) = 0#1 by simp [Ideal.cmp, h], select_zero, show c s = 1000 from if_neg h]
  obtain ⟨s₁, hk, hs₁⟩ := fold_min_attained fun s => ((c s : ℝ) : EReal)
  have hle : ∀ s, c s₁ ≤ c s := fun s => by exact_mod_cast hs₁ s
  have hc₀ : c s₀ = 8 * a s₀ + s₀.val := if_pos rfl
  have h₁ : b s₁ = b s₀ := by
    by_contra h
    have h1000 : c s₁ = 1000 := if_neg h
    have := hle s₀
    have := (ha s₀).lt
    omega
  have hc₁ : c s₁ = 8 * a s₁ + s₁.val := if_pos h₁
  have hd : d (c s₁) = b s₀ := by rw [hc₁, ← hb, h₁]
  have hlt : c s₁ < 1000 := by
    have := (ha s₁).lt
    omega
  have hrow : ∀ i < 1000, ∃ (r : ℕ) (s : Fin 8), r < 125 ∧ i = 8 * r + s.val := fun i hi =>
    ⟨i / 8, ⟨i % 8, by omega⟩, by omega, by show i = 8 * (i / 8) + i % 8; omega⟩
  refine ⟨c s₁, ⟨hlt, fun i hi => ?_, fun i hi he => ?_⟩, hm.trans hd.symm, ?_⟩
  · obtain ⟨r, s, hr, rfl⟩ := hrow i hi
    rw [hd]
    exact (hs₀ s).trans ((hb s).le.trans ((ha s).le r hr))
  · obtain ⟨r, s, hr, rfl⟩ := hrow i hi
    rw [hd] at he
    have hmin : d (8 * a s + s.val) = d (8 * r + s.val) :=
      le_antisymm ((ha s).le r hr) (by rw [he, ← hb]; exact hs₀ s)
    have hcs : c s = 8 * a s + s.val := if_pos (by rw [hb, hmin, he])
    have := hle s
    have := (ha s).first r hr hmin.symm
    omega
  · rw [hm]
    simp only [hc]
    exact hk

/-- THE SEARCH: a column's assignment is the place of its first least entry, and its inertia is that entry squared. -/
theorem search (v : FVec Ideal S1000x2048 .f32) (j : Fin 2048) :
    ∃ k, IsFirst (col v j) 1000 k ∧ assignOf v (ix3 (0 : Fin 1) (0 : Fin 1) j) = BitVec.ofNat 32 k
      ∧ inertiaOf v (ix3 (0 : Fin 1) (0 : Fin 1) j) = col v j k * col v j k := by
  rw [assignOf_apply, inertiaOf_apply]
  have hs := fun s => scan v s j 124 (by decide)
  generalize arg v 124 (by decide) = g at hs ⊢
  generalize best v 124 (by decide) = b at hs ⊢
  choose a ha hb hg using hs
  obtain ⟨k, hk, hm, hi⟩ := pick (col v j) a (fun s => b (ix2 s j)) ha hb
  refine ⟨k, hk, ?_, by rw [pay1_apply, hm]⟩
  simp only [candidates_apply, hg, pay1_apply]
  rw [hi]
  exact fptosi_nat k (hk.lt.trans (by norm_num))

end Cert.Proof.Scan
-- ==== Proof.RefValue.lean ====
/-
  The reference's three results at an index, at the extended reals: the distance of a point and a centroid is `Dist.refDist` of
  their entries; where a point's distances are all below the top, its assignment is the first index of its least distance and its
  inertia is the square of that distance.
-/
module

public import proofs.«01_k».proof.Proof.RefRun
public import proofs.«01_k».proof.Proof.Dist
public import proofs.«01_k».proof.Proof.Scan
public import Idealize.ShloMosaic.Lib.StackMember

@[expose] public section

set_option maxRecDepth 16384

noncomputable section

namespace Cert.Proof.RefValue

open Cert.ReferenceIdeal Cert.ReferenceIdeal.Gen
open Idealize.ShloMosaic Idealize.ShloMosaic.TcCoe Idealize.ShloMosaic.ValueIdx Idealize.SL.Sem
open Cert.Proof.Dist Cert.Proof.Scan

/-! ## The distances -/

/-- The entries of one row of a matrix. -/
def entries {a : Nat} (x : FVec Ideal ⟨2, ![a, 128]⟩ .f32) (n : Fin a) : Fin 128 → EReal := fun i => x (ix2 n i)

/-- The points' squared lengths, repeated along the centroids. -/
theorem lengths_points (x : FVec Ideal S16384x128 .f32) (n : Fin 16384) (k : Fin 1000) :
    broadcastInDim S16384x1000 ![0, 1] bcast_S16384x1_S16384x1000_0_1
        (broadcastInDim S16384x1 ![0] bcast_S16384_S16384x1_0
          (Host.reduceAdd (F := Ideal) (mulf x x) (constant S_ .f32 0x00000000#32) reducesTo_S16384x128_S16384_d1 h_S_)) (ix2 n k)
      = ∑ i, entries x n i * entries x n i := by
  refine (broadcastInDim_apply _ _ _ _ (ix2 n (0 : Fin 1)) fun a => ?_).trans
    ((broadcastInDim_apply _ _ _ _ (ix1 n) fun a => ?_).trans ?_)
  · match a with
    | ⟨0, _⟩ => rfl
    | ⟨1, _⟩ => rfl
  · match a with
    | ⟨0, _⟩ => rfl
  have h : S16384x128.Reduces [1] S16384 := by decide
  refine (Ideal.hostReduceAdd_single reducesTo_S16384x128_S16384_d1 h (mulf x x) (Ideal.ofBits .f32 0x00000000#32) (ix1 n)).trans ?_
  rw [Ideal.ofBits_zero_f32, zero_add]
  refine Finset.sum_congr rfl fun (i : Fin 128) _ => ?_
  have e : h.lift (ix1 n) i = ix2 n i := by
    funext a; apply Fin.ext
    match a with
    | ⟨0, _⟩ => rfl
    | ⟨1, _⟩ => rfl
  rw [mulf_apply, e]
  rfl

/-- The centroids' squared lengths, repeated along the points. -/
theorem lengths_centroids (y : FVec Ideal S1000x128 .f32) (n : Fin 16384) (k : Fin 1000) :
    broadcastInDim S16384x1000 ![0, 1] bcast_S1x1000_S16384x1000_0_1
        (broadcastInDim S1x1000 ![1] bcast_S1000_S1x1000_1
          (Host.reduceAdd (F := Ideal) (mulf y y) (constant S_ .f32 0x00000000#32) reducesTo_S1000x128_S1000_d1 h_S_)) (ix2 n k)
      = ∑ i, entries y k i * entries y k i := by
  refine (broadcastInDim_apply _ _ _ _ (ix2 (0 : Fin 1) k) fun a => ?_).trans
    ((broadcastInDim_apply _ _ _ _ (ix1 k) fun a => ?_).trans ?_)
  · match a with
    | ⟨0, _⟩ => rfl
    | ⟨1, _⟩ => rfl
  · match a with
    | ⟨0, _⟩ => rfl
  have h : S1000x128.Reduces [1] S1000 := by decide
  refine (Ideal.hostReduceAdd_single reducesTo_S1000x128_S1000_d1 h (mulf y y) (Ideal.ofBits .f32 0x00000000#32) (ix1 k)).trans ?_
  rw [Ideal.ofBits_zero_f32, zero_add]
  refine Finset.sum_congr rfl fun (i : Fin 128) _ => ?_
  have e : h.lift (ix1 k) i = ix2 k i := by
    funext a; apply Fin.ext
    match a with
    | ⟨0, _⟩ => rfl
    | ⟨1, _⟩ => rfl
  rw [mulf_apply, e]
  rfl

/-- The inner products of the points and the centroids. -/
theorem inner_apply (x : FVec Ideal S16384x128 .f32) (y : FVec Ideal S1000x128 .f32) (n : Fin 16384) (k : Fin 1000) :
    Host.dotGeneral (F := Ideal) dot_S16384x128_S128x1000_S16384x1000_1_0_0_1_n_n none x
        (transpose S128x1000 [1, 0] y transposes_S1000x128_S128x1000_1_0) (ix2 n k)
      = ∑ i, entries x n i * entries y k i := by
  refine (StackMember.dotGeneral_plain_apply (m := 16384) (k := 128) (n := 1000) none x
    (transpose S128x1000 [1, 0] y transposes_S1000x128_S128x1000_1_0) n k).trans ?_
  refine Finset.sum_congr rfl fun i _ => congrArg (fun b : EReal => x (ix2 n i) * b) ?_
  refine transpose_apply _ _ _ _ (ix2 k i) fun b => ?_
  match b with
  | ⟨0, _⟩ => rfl
  | ⟨1, _⟩ => rfl

/-- A number repeated over the matrix of distances. -/
theorem splat_apply (b : BitVec 32) (j : S16384x1000.Idx) :
    broadcastInDim S16384x1000 ![] bcast_S_S16384x1000 (constant (F := Ideal) S_ .f32 b) j = Ideal.ofBits .f32 b := rfl

/-- The squared distance at a point and a centroid. -/
theorem sqDist_apply (x : FVec Ideal S16384x128 .f32) (y : FVec Ideal S1000x128 .f32) (n : Fin 16384) (k : Fin 1000) :
    Ref.sqDist x y (ix2 n k) = square (entries x n) (entries y k) := by
  unfold Ref.sqDist square
  rw [subf_apply, addf_apply, mulf_apply, lengths_points, lengths_centroids, inner_apply, splat_apply, ofBits_two]

/-- The distance at a point and a centroid. -/
theorem dist_apply (x : FVec Ideal S16384x128 .f32) (y : FVec Ideal S1000x128 .f32) (n : Fin 16384) (k : Fin 1000) :
    Ref.dist x y (ix2 n k) = refDist (entries x n) (entries y k) := by
  unfold Ref.dist refDist
  rw [← sqDist_apply]
  generalize Ref.sqDist x y = s
  have h : maximumf s (broadcastInDim S16384x1000 ![] bcast_S_S16384x1000 (constant S_ .f32 0x00000000#32)) (ix2 n k)
      = max (s (ix2 n k)) 0 := by rw [maximumf_apply, splat_apply, Ideal.ofBits_zero_f32]
  exact congrArg Ideal.sqrt h

/-! ## The least distance of a row -/

/-- Row `n` of a matrix of distances over the natural numbers, the top outside it. -/
def row (d : FVec Ideal S16384x1000 .f32) (n : Fin 16384) (k : ℕ) : EReal := if h : k < 1000 then d (ix2 n ⟨k, h⟩) else ⊤

/-- Index `k` comes before `i` in the search for the least: its entry is less, or the same at an index no greater. -/
def Before (f : ℕ → EReal) (k i : ℕ) : Prop := f k ≤ f i ∧ (f i = f k → k ≤ i)

theorem Before.refl (f : ℕ → EReal) (k : ℕ) : Before f k k := ⟨le_rfl, fun _ => le_rfl⟩

theorem Before.trans {f : ℕ → EReal} {a b c : ℕ} (h : Before f a b) (h' : Before f b c) : Before f a c :=
  ⟨h.1.trans h'.1, fun e => by
    have hb : f b = f a := le_antisymm (h'.1.trans e.le) h.1
    exact (h.2 hb).trans (h'.2 (e.trans hb.symm))⟩

/-- A word below a thousand is its number, signed. -/
theorem toInt_word {k : ℕ} (h : k < 1000) : (BitVec.ofNat 32 k).toInt = k := by
  rw [BitVec.toInt_eq_toNat_of_lt (by rw [BitVec.toNat_ofNat]; omega), BitVec.toNat_ofNat]
  omega

/-- One step of the reference's search at the extended reals. -/
theorem reducer_apply (a b : Ideal .f32 × BitVec 32) :
    reducer_argmin_f32_i32 a b
      = (if a.1 < b.1 then a.1 else b.1, if a.1 < b.1 ∨ (a.1 = b.1 ∧ a.2.toInt < b.2.toInt) then a.2 else b.2) := by
  obtain ⟨a1, a2⟩ := a
  obtain ⟨b1, b2⟩ := b
  by_cases h1 : a1 < b1 <;> by_cases h2 : a1 = b1 <;> by_cases h3 : a2.toInt < b2.toInt <;>
    simp [reducer_argmin_f32_i32, Scalar.select, Ideal.cmpf_def, Ideal.cmp, IntOp.cmpi, IntOp.ori, IntOp.andi, BitVec.slt_eq_decide, h1, h2, h3]

/-- One step keeps whichever of two entries comes before the other. -/
theorem step (f : ℕ → EReal) {k i : ℕ} (hk : k < 1000) (hi : i < 1000) :
    ∃ m, m < 1000 ∧ reducer_argmin_f32_i32 (F := Ideal) (f k, BitVec.ofNat 32 k) (f i, BitVec.ofNat 32 i) = (f m, BitVec.ofNat 32 m)
      ∧ Before f m k ∧ Before f m i := by
  rw [reducer_apply]
  dsimp only
  rw [toInt_word hk, toInt_word hi]
  rcases lt_trichotomy (f k) (f i) with h | h | h
  · exact ⟨k, hk, by simp [h], .refl f k, h.le, fun e => absurd e h.ne'⟩
  · by_cases h' : k < i
    · exact ⟨k, hk, by simp [h, h'], .refl f k, h.le, fun _ => h'.le⟩
    · exact ⟨i, hi, by simp [h, h'], ⟨h.ge, fun _ => not_lt.1 h'⟩, .refl f i⟩
  · exact ⟨i, hi, by simp [h.le, h.ne', not_lt.2 h.le], ⟨h.le, fun e => absurd e h.ne'⟩, .refl f i⟩

/-- The search through a list, begun at an entry, ends at one that comes before it and before all in the list. -/
theorem walk (f : ℕ → EReal) (L : List (Ideal .f32 × BitVec 32)) :
    ∀ k, k < 1000 → (∀ p ∈ L, ∃ i, i < 1000 ∧ p = (f i, BitVec.ofNat 32 i)) →
      ∃ m, m < 1000 ∧ L.foldl reducer_argmin_f32_i32 (f k, BitVec.ofNat 32 k) = (f m, BitVec.ofNat 32 m) ∧ Before f m k
        ∧ ∀ i, i < 1000 → (f i, BitVec.ofNat 32 i) ∈ L → Before f m i := by
  induction L with
  | nil => exact fun k hk _ => ⟨k, hk, rfl, .refl f k, fun i _ h => absurd h List.not_mem_nil⟩
  | cons p L ih =>
    intro k hk hL
    obtain ⟨i, hi, rfl⟩ := hL p List.mem_cons_self
    obtain ⟨m, hm, e, hmk, hmi⟩ := step f hk hi
    obtain ⟨m', hm', e', hb, hall⟩ := ih m hm fun q hq => hL q (List.mem_cons_of_mem _ hq)
    refine ⟨m', hm', by rw [List.foldl_cons, e, e'], hb.trans hmk, fun j hj hmem => ?_⟩
    rcases List.mem_cons.1 hmem with h | h
    · have hw : BitVec.ofNat 32 j = BitVec.ofNat 32 i := congrArg Prod.snd h
      have : (j : ℤ) = i := by rw [← toInt_word hj, ← toInt_word hi, hw]
      obtain rfl : j = i := by exact_mod_cast this
      exact hb.trans hmi
    · exact hall j hj h

/-- The search through a list that holds every entry, begun at the top, ends at the first least entry. -/
theorem least (f : ℕ → EReal) (hf : ∀ i, i < 1000 → f i < ⊤) (L : List (Ideal .f32 × BitVec 32))
    (hL : ∀ p ∈ L, ∃ i, i < 1000 ∧ p = (f i, BitVec.ofNat 32 i)) (hall : ∀ i, i < 1000 → (f i, BitVec.ofNat 32 i) ∈ L) :
    ∃ m, IsFirst f 1000 m ∧ L.foldl reducer_argmin_f32_i32 ((⊤ : EReal), (0#32 : BitVec 32)) = (f m, BitVec.ofNat 32 m) := by
  cases L with
  | nil => exact absurd (hall 0 (by norm_num)) List.not_mem_nil
  | cons p L =>
    obtain ⟨i, hi, rfl⟩ := hL p List.mem_cons_self
    have e : reducer_argmin_f32_i32 (F := Ideal) ((⊤ : EReal), (0#32 : BitVec 32)) (f i, BitVec.ofNat 32 i) = (f i, BitVec.ofNat 32 i) := by
      rw [reducer_apply]
      have := hf i hi
      simp [this.ne']
    obtain ⟨m, hm, e', hb, h⟩ := walk f L i hi fun q hq => hL q (List.mem_cons_of_mem _ hq)
    have hbefore : ∀ j, j < 1000 → Before f m j := fun j hj => by
      rcases List.mem_cons.1 (hall j hj) with h' | h'
      · have hw : BitVec.ofNat 32 j = BitVec.ofNat 32 i := congrArg Prod.snd h'
        have : (j : ℤ) = i := by rw [← toInt_word hj, ← toInt_word hi, hw]
        obtain rfl : j = i := by exact_mod_cast this
        exact hb
      · exact h j hj h'
    exact ⟨m, ⟨hm, fun j hj => (hbefore j hj).1, fun j hj => (hbefore j hj).2⟩, by rw [List.foldl_cons, e, e']⟩

/-- The entries a search along the second axis walks through, at row `n`, are that row's. -/
theorem mem_fiber {a b : ℕ} {β : Type} (x : FVec Ideal ⟨2, ![a, b]⟩ .f32) (y : (⟨2, ![a, b]⟩ : Shape).Idx → β)
    (h : (⟨2, ![a, b]⟩ : Shape).ReducesTo [1] ⟨1, ![a]⟩) (n : Fin a) (p : Ideal .f32 × β) :
    p ∈ Host.argReduceFiber x y h (ix1 n) ↔ ∃ k : Fin b, p = (x (ix2 n k), y (ix2 n k)) := by
  unfold Host.argReduceFiber
  simp only [List.mem_map, List.mem_filter, List.mem_finRange, true_and, decide_eq_true_eq]
  constructor
  · rintro ⟨q, hq, rfl⟩
    generalize (⟨2, ![a, b]⟩ : Shape).rowMajor.symm q = i at hq
    obtain ⟨k, rfl⟩ : ∃ k : Fin b, i = ix2 n k := by
      refine ⟨i 1, ?_⟩
      have h0 : i 0 = n := Fin.ext (congrArg (fun j : (⟨1, ![a]⟩ : Shape).Idx => (j 0).val) hq)
      funext c
      match c with
      | ⟨0, _⟩ => exact h0
      | ⟨1, _⟩ => rfl
    exact ⟨k, rfl⟩
  · rintro ⟨k, rfl⟩
    refine ⟨(⟨2, ![a, b]⟩ : Shape).rowMajor (ix2 n k), ?_, ?_⟩
    · rw [Equiv.symm_apply_apply]
      funext c; apply Fin.ext
      match c with
      | ⟨0, _⟩ => rfl
    · rw [Equiv.symm_apply_apply]

/-- The indices along a row are the numbers in order. -/
theorem iota_apply (n : Fin 16384) (k : Fin 1000) : iotaInDim S16384x1000 32 1 (ix2 n k) = BitVec.ofNat 32 k.val := rfl

/-- The search along a row whose entries are all below the top ends at the first index of the least. -/
theorem argmin_apply {a : ℕ} {u : Shape} (x : FVec Ideal ⟨2, ![a, 1000]⟩ .f32) (y : IVec ⟨2, ![a, 1000]⟩ 32)
    (hy : ∀ (n : Fin a) (k : Fin 1000), y (ix2 n k) = BitVec.ofNat 32 k.val) (ix : FVec Ideal u .f32) (iy : IVec u 32)
    (h : (⟨2, ![a, 1000]⟩ : Shape).ReducesTo [1] ⟨1, ![a]⟩) (hu : 0 < u.numel) (hix : ix (Shape.Idx.first hu) = (⊤ : EReal))
    (hiy : iy (Shape.Idx.first hu) = 0#32) (n : Fin a) (hx : ∀ k, x (ix2 n k) < (⊤ : EReal)) :
    ∃ k, IsFirst (fun i => if h : i < 1000 then (x (ix2 n ⟨i, h⟩) : EReal) else ⊤) 1000 k
      ∧ Host.argReduce reducer_argmin_f32_i32 x y ix iy h hu (ix1 n)
        = ((if h : k < 1000 then (x (ix2 n ⟨k, h⟩) : EReal) else ⊤), BitVec.ofNat 32 k) := by
  have hrow : ∀ {k : ℕ} (h : k < 1000), (if h : k < 1000 then (x (ix2 n ⟨k, h⟩) : EReal) else ⊤) = x (ix2 n ⟨k, h⟩) := fun h => dif_pos h
  obtain ⟨k, hk, e⟩ := least (fun i => if h : i < 1000 then (x (ix2 n ⟨i, h⟩) : EReal) else ⊤)
    (fun i hi => by rw [hrow hi]; exact hx _) (Host.argReduceFiber x y h (ix1 n))
    (fun p hp => by
      obtain ⟨k, rfl⟩ := (mem_fiber x y h n p).1 hp
      exact ⟨k.val, k.isLt, by rw [hrow k.isLt, hy]⟩)
    (fun i hi => (mem_fiber x y h n _).2 ⟨⟨i, hi⟩, by rw [hrow hi, hy]⟩)
  refine ⟨k, hk, ?_⟩
  rw [Ideal.argReduce_eq_reduce2, Host.reduce2_eq_foldl_fiber, hix, hiy, e]

/-- The reference's assignment of a point whose distances are all below the top: the first index of the least. -/
theorem assign_apply (d : FVec Ideal S16384x1000 .f32) (n : Fin 16384) (hd : ∀ k, d (ix2 n k) < (⊤ : EReal)) :
    ∃ k, IsFirst (row d n) 1000 k ∧ Ref.assign d (ix1 n) = BitVec.ofNat 32 k := by
  have hinf : (constant (F := Ideal) S_ .f32 0x7F800000#32) (Shape.Idx.first h_S_) = (⊤ : EReal) := (constant_apply _ _).trans ofBits_inf
  obtain ⟨k, hk, e⟩ := argmin_apply (a := 16384) d (iotaInDim S16384x1000 32 1) iota_apply (constant S_ .f32 0x7F800000#32)
    (constantI S_ 32 0#32) reducesTo_S16384x1000_S16384_d1 h_S_ hinf rfl n hd
  exact ⟨k, hk, Ref.indices_of _ (ix1 n) _ e⟩

/-! ## The reshaped column, and the distance read at an index -/

/-- The indices as a column and back are the indices. -/
theorem flat_column (a : IVec S16384 32) (n : Fin 16384) :
    shapeCast S16384 (Ref.column a) shapeCasts_S16384x1_S16384 (ix1 n) = a (ix1 n) := by
  refine (shapeCast_apply _ _ _ (ix2 n (0 : Fin 1)) ?_).trans (broadcastInDim_apply _ _ _ _ _ fun b => ?_)
  · rw [Shape.rowMajor_val_one, Shape.rowMajor_val_two]
    show n.val * 1 + 0 = n.val
    omega
  · match b with
    | ⟨0, _⟩ => rfl

theorem column_apply (a : IVec S16384 32) (n : Fin 16384) : Ref.column a (ix2 n (0 : Fin 1)) = a (ix1 n) :=
  broadcastInDim_apply _ _ _ _ _ fun b => by
    match b with
    | ⟨0, _⟩ => rfl

/-- An index that is not negative is left as it is. -/
theorem wrapped_apply (a : IVec S16384x1 32) (n : Fin 16384) {k : ℕ} (hk : k < 1000) (ha : a (ix2 n (0 : Fin 1)) = BitVec.ofNat 32 k) :
    Ref.wrapped a (ix3 n (0 : Fin 1) (0 : Fin 1)) = BitVec.ofNat 32 k := by
  unfold Ref.wrapped
  refine (shapeCast_apply _ _ _ (ix2 n (0 : Fin 1)) ?_).trans ?_
  · rw [Shape.rowMajor_val_three, Shape.rowMajor_val_two]
    show n.val * 1 + 0 = (n.val * 1 + 0) * 1 + 0
    omega
  rw [select_apply, ha]
  have hc : cmpi .slt a (broadcastInDim S16384x1 ![] bcast_S_S16384x1 (constantI S_ 32 0#32)) (ix2 n (0 : Fin 1)) = 0#1 := by
    show IntOp.cmpi .slt (a (ix2 n (0 : Fin 1))) 0#32 = 0#1
    rw [ha]
    have : ¬ (k : ℤ) < 0 := by omega
    simp [IntOp.cmpi, BitVec.slt_eq_decide, toInt_word hk, this]
  rw [hc, select_zero]

/-- An index in its row is found there. -/
theorem inRow_apply (a : IVec S16384x1x1 32) (n : Fin 16384) {k : ℕ} (hk : k < 1000)
    (ha : a (ix3 n (0 : Fin 1) (0 : Fin 1)) = BitVec.ofNat 32 k) : Ref.inRow a (ix2 n (0 : Fin 1)) = 1#1 := by
  have h : S16384x1x1.Reduces [2] S16384x1 := by decide
  unfold Ref.inRow
  refine (Host.reduce_eq_fold_single _ _ _ _ h _ _).trans ?_
  have hu : (Finset.univ : Finset (Fin (S16384x1x1.size 2))) = {(0 : Fin 1)} := rfl
  rw [hu]
  refine (Finset.fold_singleton (α := Fin 1) (op := IntOp.andi) (a := 0)).trans ?_
  have e : h.lift (ix2 n (0 : Fin 1)) (0 : Fin 1) = ix3 n (0 : Fin 1) (0 : Fin 1) := by
    funext b; apply Fin.ext
    match b with
    | ⟨0, _⟩ => rfl
    | ⟨1, _⟩ => rfl
    | ⟨2, _⟩ => rfl
  show IntOp.andi (andi (cmpi .sge a _) (cmpi .sle a _) (h.lift (ix2 n (0 : Fin 1)) (0 : Fin 1))) 1#1 = 1#1
  rw [e]
  show IntOp.andi (IntOp.andi (IntOp.cmpi .sge (a (ix3 n (0 : Fin 1) (0 : Fin 1))) 0#32)
    (IntOp.cmpi .sle (a (ix3 n (0 : Fin 1) (0 : Fin 1))) 999#32)) 1#1 = 1#1
  rw [ha]
  have : (k : ℤ) ≤ 999 := by omega
  simp [IntOp.cmpi, IntOp.andi, BitVec.sle_eq_decide, BitVec.slt_eq_decide, toInt_word hk, this]

/-- The entry the reference reads in each row: the one at the row's index. -/
theorem gather_apply (d : FVec Ideal S16384x1000 .f32) (a : IVec S16384x1x1 32) (n : Fin 16384) {k : ℕ} (hk : k < 1000)
    (ha : a (ix3 n (0 : Fin 1) (0 : Fin 1)) = BitVec.ofNat 32 k) :
    Host.gather gather_S16384x1000_S16384x1x1_S16384x1_n_1_0_0_1_2_11 d a (ix2 n (0 : Fin 1)) = d (ix2 n ⟨k, hk⟩) := by
  refine congrArg d ?_
  set D := gather_S16384x1000_S16384x1x1_S16384x1_n_1_0_0_1_2_11 with hD
  have hlist : ∀ (b : Fin 2), b ∈ [b] := fun b => List.mem_singleton.2 rfl
  funext b; apply Fin.ext
  show D.start (ix2 n (0 : Fin 1)) a b + D.batchCoord (ix2 n (0 : Fin 1)) b + D.offCoord (ix2 n (0 : Fin 1)) b = _
  match b with
  | ⟨0, h0⟩ =>
    have hb : (⟨0, h0⟩ : Fin S16384x1000.rank) ∈ D.operandBatchingDims := hlist 0
    rw [D.start_batching _ _ _ hb, D.offCoord_eq_zero _ _ fun h => ((D.mem_sKept _).1 h).2 hb, GatherDims.batchCoord, dif_pos hb]
    show 0 + n.val + 0 = n.val
    omega
  | ⟨1, h1⟩ =>
    have hc : (⟨1, h1⟩ : Fin S16384x1000.rank) ∈ D.collapsedSliceDims := hlist 1
    have hm : (⟨1, h1⟩ : Fin S16384x1000.rank) ∈ D.startIndexMap := hlist 1
    have hn : (⟨1, h1⟩ : Fin S16384x1000.rank) ∉ D.operandBatchingDims := by
      show (1 : Fin 2) ∉ [(0 : Fin 2)]
      decide
    rw [D.batchCoord_eq_zero _ _ hn, D.offCoord_eq_zero _ _ fun h => ((D.mem_sKept _).1 h).1 hc, GatherDims.start, dif_pos hm]
    have hsi : D.siIdx (ix2 n (0 : Fin 1)) ⟨D.startIndexMap.idxOf ⟨1, h1⟩, List.idxOf_lt_length_iff.2 hm⟩ = ix3 n (0 : Fin 1) (0 : Fin 1) := by
      funext c; apply Fin.ext
      match c with
      | ⟨0, _⟩ => rfl
      | ⟨1, _⟩ => rfl
      | ⟨2, _⟩ => rfl
    rw [hsi, ha, toInt_word hk]
    show min k (1000 - 1) + 0 + 0 = k
    omega

/-- The reference's inertia of a point whose index is in its row: the square of the distance there. -/
theorem inertia_apply (d : FVec Ideal S16384x1000 .f32) (a : IVec S16384 32) (n : Fin 16384) {k : ℕ} (hk : k < 1000)
    (ha : a (ix1 n) = BitVec.ofNat 32 k) :
    Ref.inertia d (Ref.wrapped (Ref.column a)) (ix1 n) = row d n k * row d n k := by
  have hw := wrapped_apply (Ref.column a) n hk ((column_apply a n).trans ha)
  have ht : Ref.taken d (Ref.wrapped (Ref.column a)) (ix2 n (0 : Fin 1)) = row d n k := by
    unfold Ref.taken
    rw [select_apply, inRow_apply _ n hk hw, select_one, gather_apply d _ n hk hw, row, dif_pos hk]
  unfold Ref.inertia
  refine (shapeCast_apply _ _ _ (ix2 n (0 : Fin 1)) ?_).trans ?_
  · rw [Shape.rowMajor_val_one, Shape.rowMajor_val_two]
    show n.val * 1 + 0 = n.val
    omega
  rw [mulf_apply, ht]

end Cert.Proof.RefValue
-- ==== Proof.Agree.lean ====
/-
  The kernel's three results are the reference's, at the extended reals: where the entries are finite and every squared distance
  is at least the kernel's lower bound.
-/
module

public import proofs.«01_k».proof.Pre_apart
public import proofs.«01_k».proof.Proof.Arrays
public import proofs.«01_k».proof.Proof.RefValue

@[expose] public section

set_option maxRecDepth 16384

noncomputable section

namespace Cert.Proof.Agree

open Idealize.ShloMosaic Idealize.ShloMosaic.TcCoe Idealize.ShloMosaic.ValueIdx Idealize.SL.Sem
open Cert.Proof.Dist Cert.Proof.Scan Cert.Proof.RefValue Cert.Proof.Arrays

/-! ## The precondition, entry by entry -/

section Apart
open Cert.Pre_apart Cert.Pre_apart.Facts
variable [Cert.Pre_apart.Facts]

/-- The precondition's three comparisons. -/
theorem fn_eq {F : FTy → Type} [FloatOps F] (x : FVec F S16384x128 .f32) (y : FVec F S1000x128 .f32) :
    fn x y = (cmpf .olt (Host.absf x) (broadcastInDim S16384x128 ![] bcast_S_S16384x128 (constant S_ .f32 0x7F800000#32)),
      cmpf .olt (Host.absf y) (broadcastInDim S1000x128 ![] bcast_S_S1000x128 (constant S_ .f32 0x7F800000#32)),
      cmpf .oge (Ref.sqDist x y) (broadcastInDim S16384x1000 ![] bcast_S_S16384x1000 (constant S_ .f32 0x00800000#32))) := rfl

/-- A comparison that answers one says what it compares. -/
theorem of_olt {a b : EReal} (h : FloatOps.cmpf (F := Ideal) (φ := .f32) .olt a b = 1#1) : a < b := by
  by_contra hn
  simp [Ideal.cmpf_def, Ideal.cmp, hn] at h

/-- The same of an at-least comparison. -/
theorem of_oge {a b : EReal} (h : FloatOps.cmpf (F := Ideal) (φ := .f32) .oge a b = 1#1) : b ≤ a := by
  by_contra hn
  simp [Ideal.cmpf_def, Ideal.cmp, hn] at h

/-- The points' entries are finite. -/
theorem finite_points (x : FVec Ideal S16384x128 .f32) (y : FVec Ideal S1000x128 .f32) (h : (fn x y).1 = fun _ => 1#1)
    (n : Fin 16384) (i : Fin 128) : max (entries x n i) (-entries x n i) < ⊤ := by
  rw [fn_eq] at h
  have := of_olt (congrFun h (ix2 n i))
  exact lt_of_lt_of_eq this ofBits_inf

/-- The centroids' entries are finite. -/
theorem finite_cents (x : FVec Ideal S16384x128 .f32) (y : FVec Ideal S1000x128 .f32) (h : (fn x y).2.1 = fun _ => 1#1)
    (k : Fin 1000) (i : Fin 128) : max (entries y k i) (-entries y k i) < ⊤ := by
  rw [fn_eq] at h
  have := of_olt (congrFun h (ix2 k i))
  exact lt_of_lt_of_eq this ofBits_inf

/-- Every squared distance is at least the kernel's lower bound. -/
theorem apart_squares (x : FVec Ideal S16384x128 .f32) (y : FVec Ideal S1000x128 .f32) (h : (fn x y).2.2 = fun _ => 1#1)
    (n : Fin 16384) (k : Fin 1000) : tiny ≤ square (entries x n) (entries y k) := by
  rw [fn_eq] at h
  rw [← sqDist_apply]
  exact of_oge (congrFun h (ix2 n k))

end Apart

/-! ## The results -/

section Results
open Cert.KernelIdeal Cert.KernelIdeal.Gen

variable (m : (ℓ : Loc nD τ sig) → Buf (Elt Ideal) ℓ) (c : Dev nD)

/-- What the precondition says of the launch contents: finite entries, and every squared distance at least the bound. -/
structure Apart : Prop where
  points : ∀ (n : Fin 16384) (i : Fin 128), max (entries (data m c) n i) (-entries (data m c) n i) < ⊤
  cents : ∀ (k : Fin 1000) (i : Fin 128), max (entries (cents m c) k i) (-entries (cents m c) k i) < ⊤
  squares : ∀ (n : Fin 16384) (k : Fin 1000), tiny ≤ square (entries (data m c) n) (entries (Arrays.cents m c) k)

variable {m c} (h : Apart m c)
include h

/-- The reference's distances are below the top. -/
theorem dist_lt_top (n : Fin 16384) (k : Fin 1000) : Ref.dist (data m c) (Arrays.cents m c) (ix2 n k) < (⊤ : EReal) := by
  rw [dist_apply]
  exact (Dist.dist_eq _ _ (h.points n) (h.cents k) (h.squares n k)).2

/-- A block's entry is the reference's distance. -/
theorem block_apply (n : Fin 16384) (k : Fin 1000) :
    block m c (owner n.val n.isLt) (ix2 k (place n.val)) = Ref.dist (data m c) (Arrays.cents m c) (ix2 n k) := by
  have hsum : 2048 * (owner n.val n.isLt).val + (place n.val).val = n.val := Nat.div_add_mod n.val 2048
  have hlt : 2048 * (owner n.val n.isLt).val + (place n.val).val < 16384 := hsum.symm ▸ n.isLt
  have hn : (⟨2048 * (owner n.val n.isLt).val + (place n.val).val, hlt⟩ : Fin 16384) = n := Fin.ext hsum
  have hp : (fun i => tile m c (owner n.val n.isLt) (ix2 (place n.val) i)) = entries (data m c) n := by
    funext i
    rw [tile_apply m c (owner n.val n.isLt) (place n.val) i hlt, hn]
    rfl
  rw [dist_apply, ← (Dist.dist_eq _ _ (h.points n) (h.cents k) (h.squares n k)).1, ← hp]
  exact pay6_apply (tile m c (owner n.val n.isLt)) (Arrays.cents m c) k (place n.val)

/-- A block's column of distances is the reference's row. -/
theorem col_eq (n : Fin 16384) : col (block m c (owner n.val n.isLt)) (place n.val) = row (Ref.dist (data m c) (Arrays.cents m c)) n := by
  funext k
  unfold col row
  by_cases hk : k < 1000
  · rw [dif_pos hk, dif_pos hk, block_apply h n ⟨k, hk⟩]
  · rw [dif_neg hk, dif_neg hk]

/-- The first result: the distances. -/
theorem result0 : transpose S16384x1000 [1, 0] (distances m c) transposes_S1000x16384_S16384x1000_1_0
    = Ref.dist (data m c) (Arrays.cents m c) := by
  funext i
  rw [eq_ix2 i]
  refine (transpose_apply _ _ _ _ (ix2 (i 1) (i 0)) fun b => ?_).trans (block_apply h (i 0) (i 1))
  match b with
  | ⟨0, _⟩ => rfl
  | ⟨1, _⟩ => rfl

/-- The index the kernel finds for a point is the one the reference finds, and its squared distance the same. -/
theorem found (n : Fin 16384) : ∃ k, k < 1000
    ∧ Blocks.assignOf (block m c (owner n.val n.isLt)) (ix3 (0 : Fin 1) (0 : Fin 1) (place n.val)) = BitVec.ofNat 32 k
    ∧ Ref.assign (Ref.dist (data m c) (Arrays.cents m c)) (ix1 n) = BitVec.ofNat 32 k
    ∧ Blocks.inertiaOf (block m c (owner n.val n.isLt)) (ix3 (0 : Fin 1) (0 : Fin 1) (place n.val))
      = row (Ref.dist (data m c) (Arrays.cents m c)) n k * row (Ref.dist (data m c) (Arrays.cents m c)) n k := by
  obtain ⟨k, hk, ea, ei⟩ := search (block m c (owner n.val n.isLt)) (place n.val)
  obtain ⟨k', hk', ea'⟩ := assign_apply (Ref.dist (data m c) (Arrays.cents m c)) n fun k => dist_lt_top h n k
  rw [col_eq h n] at hk ei
  obtain rfl := hk.unique hk'
  exact ⟨k, hk.lt, ea, ea', ei⟩

omit h in
/-- A tile-by-tile array laid out as one row, at point `n`. -/
theorem flat_apply {α : Type} (x : S8x1x2048.Idx → α) (n : Fin 16384) :
    shapeCast S16384 x shapeCasts_S8x1x2048_S16384 (ix1 n)
      = x (ix3 (⟨n.val / 2048, by have := n.isLt; omega⟩ : Fin 8) (0 : Fin 1) (place n.val)) := by
  refine shapeCast_apply _ _ _ _ ?_
  rw [Shape.rowMajor_val_one, Shape.rowMajor_val_three]
  show (n.val / 2048 * 1 + 0) * 2048 + n.val % 2048 = n.val
  omega

/-- The second result: the assignments. -/
theorem result1 : shapeCast S16384 (assigned m c) shapeCasts_S8x1x2048_S16384
    = shapeCast Cert.ReferenceIdeal.S16384 (Ref.column (Ref.assign (Ref.dist (data m c) (Arrays.cents m c))))
        Cert.ReferenceIdeal.Facts₀.shapeCasts_S16384x1_S16384 := by
  funext i
  obtain ⟨k, -, ea, ea', -⟩ := found h (i 0)
  rw [eq_ix1 i]
  exact (flat_apply (assigned m c) (i 0)).trans (ea.trans ((flat_column _ (i 0)).trans ea').symm)

/-- The third result: the inertias. -/
theorem result2 : shapeCast S16384 (inertias m c) shapeCasts_S8x1x2048_S16384
    = Ref.inertia (Ref.dist (data m c) (Arrays.cents m c))
        (Ref.wrapped (Ref.column (Ref.assign (Ref.dist (data m c) (Arrays.cents m c))))) := by
  funext i
  obtain ⟨k, hk, -, ea', ei⟩ := found h (i 0)
  rw [eq_ix1 i]
  exact (flat_apply (inertias m c) (i 0)).trans (ei.trans (inertia_apply _ _ (i 0) hk ea').symm)

end Results

end Cert.Proof.Agree
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_apart
public import proofs.«01_k».proof.Proof.RefRun
public import proofs.«01_k».proof.Proof.Arrays
public import proofs.«01_k».proof.Proof.Agree
public import Idealize.ShloMosaic.Adequacy
public import Idealize.ShloMosaic.Init

@[expose] public section

noncomputable section

namespace Cert.Proof

open Idealize.ShloMosaic Idealize.SL.Sem

/-- The reference terminates, its arguments end unchanged, and it declares no semaphore. -/
theorem frame_ref : Cert.quiescent_ReferenceIdeal := fun m ρ _ =>
  (θ_run Cert.ReferenceIdeal.defs _ _).mono (fun r h => ⟨fun c => ⟨(h c).2.2.2.1, (h c).2.2.2.2⟩,
      Idealize.ShloMosaic.sem_eq_zero_of_no_sems (by decide) r.2⟩)
    (Cert.Proof.Ref.run (F := Ideal) m ρ)

/-- What the precondition gives at each device. -/
theorem apart (m : (ℓ : Loc Cert.KernelIdeal.nD Cert.KernelIdeal.τ Cert.KernelIdeal.sig) → Buf (Elt Ideal) ℓ)
    (h : Cert.Pre_KernelIdeal_apart m) (c : Dev Cert.KernelIdeal.nD) : Agree.Apart m c :=
  ⟨Agree.finite_points _ _ (h c).1, Agree.finite_cents _ _ (h c).2.1, Agree.apart_squares _ _ (h c).2.2⟩

/-- From memories that agree on the points and the centroids, the idealized kernel and the idealized reference end with the same
    distances, assignments and inertias, and leave their arguments unchanged. -/
theorem algebraic : Cert.algebraic_KernelIdeal_ReferenceIdeal_pre_apart := by
  intro m g m' g' hpre hagree
  refine ⟨_, _, _, Arrays.run (F := Ideal) m g, (θ_run Cert.ReferenceIdeal.defs _ _).mono (fun r h c => ?_) (Ref.run (F := Ideal) m' g')⟩
  obtain ⟨h0, h1, h2, hu⟩ := h c
  rw [(hagree c).1, (hagree c).2] at h0 h1 h2
  have ha := apart m hpre c
  exact ⟨h0.trans (Agree.result0 ha).symm, h1.trans (Agree.result1 ha).symm, h2.trans (Agree.result2 ha).symm, hu⟩

/-- The certificate. -/
theorem claim : Cert.Claim :=
  ⟨Cert.Kernel.Gen.facts, Cert.KernelIdeal.Gen.facts, Cert.ReferenceIdeal.Gen.facts, Cert.Pre_apart.Gen.facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial, trivial, algebraic⟩

end Cert.Proof

end
